-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocabulary [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocabulary [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel)
    ∧ quiescent_KernelIdeal (hKernelIdeal := hKernelIdeal)
    ∧ quiescent_KernelIdeal_pre_in_vocabulary (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal_pre_in_vocabulary (hKernelIdeal := hKernelIdeal) (hReferenceIdeal := hReferenceIdeal) (hPre_in_vocabulary := hPre_in_vocabulary)
-- ==== Pre_in_vocabulary.lean ====
abbrev S1024x50x1000 : Shape := ⟨3, ![1024, 50, 1000]⟩
abbrev S1024x50 : Shape := ⟨2, ![1024, 50]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : FVec F S1024x50x1000 .f32) (main_arg1 : IVec S1024x50 32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg1 main_v0
  let main_c_0 : IVec S_ 1 := constantI S_ 1 1#1
  let main_v2 : IVec S_ 1 := (fun x v => Host.reduce IntOp.andi x v reducesTo_S1024x50_S_d0_1 h_S_) main_v1 main_c_0
  let main_c_1 : IVec S_ 32 := constantI S_ 32 1000#32
  let main_v3 : IVec S1024x50 32 := broadcastInDim S1024x50 ![] bcast_S_S1024x50 main_c_1
  let main_v4 : IVec S1024x50 1 := cmpi .slt main_arg1 main_v3
  let main_c_2 : IVec S_ 1 := constantI S_ 1 1#1
  let main_v5 : IVec S_ 1 := (fun x v => Host.reduce IntOp.andi x v reducesTo_S1024x50_S_d0_1 h_S_) main_v4 main_c_2
  let main_v6 : IVec S_ 1 := andi main_v2 main_v5
  main_v6
-- ==== Kernel.lean ====
abbrev S1024x50x1000 : Shape := ⟨3, ![1024, 50, 1000]⟩
abbrev S1024x50 : Shape := ⟨2, ![1024, 50]⟩
abbrev S51200 : Shape := ⟨1, ![51200]⟩
abbrev S1600 : Shape := ⟨1, ![1600]⟩
abbrev S16 : Shape := ⟨1, ![16]⟩
abbrev S_ : Shape := ⟨0, ![]⟩
abbrev S128x1x128 : Shape := ⟨3, ![128, 1, 128]⟩
abbrev S8x50x1000 : Shape := ⟨3, ![8, 50, 1000]⟩
abbrev S8x50 : Shape := ⟨2, ![8, 50]⟩
abbrev S1x1x128 : Shape := ⟨3, ![1, 1, 128]⟩
abbrev S8x50x1 : Shape := ⟨3, ![8, 50, 1]⟩
abbrev S1x8x50 : Shape := ⟨3, ![1, 8, 50]⟩
abbrev S1 : Shape := ⟨1, ![1]⟩
abbrev S1x1x1 : Shape := ⟨3, ![1, 1, 1]⟩
abbrev S128x1x1 : Shape := ⟨3, ![128, 1, 1]⟩
abbrev S128 : Shape := ⟨1, ![128]⟩

abbrev nBuf : Table → Nat
  | .hbm => 15
  | .local .tc .vmem => 8
  | .local .scVector .vmem => 2
  | _ => 0

abbrev bufTy : (tb : Table) → Fin (nBuf tb) → BufTy
  | .hbm, ⟨0, _⟩ => ⟨S1024x50x1000, .f32⟩
  | .hbm, ⟨1, _⟩ => ⟨S1024x50, .i32⟩
  | .hbm, ⟨2, _⟩ => ⟨S51200, .i32⟩
  | .hbm, ⟨3, _⟩ => ⟨S51200, .f32⟩
  | .hbm, ⟨4, _⟩ => ⟨S1024x50, .f32⟩
  | .hbm, ⟨5, _⟩ => ⟨S128x1x128, .f32⟩
  | .hbm, ⟨6, _⟩ => ⟨S128x1x1, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S128x1x1, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .local .tc .vmem, ⟨0, _⟩ => ⟨S8x50x1000, .f32⟩
  | .local .tc .vmem, ⟨1, _⟩ => ⟨S8x50x1000, .f32⟩
  | .local .tc .vmem, ⟨2, _⟩ => ⟨S8x50, .i32⟩
  | .local .tc .vmem, ⟨3, _⟩ => ⟨S8x50, .i32⟩
  | .local .tc .vmem, ⟨4, _⟩ => ⟨S8x50, .f32⟩
  | .local .tc .vmem, ⟨5, _⟩ => ⟨S8x50, .f32⟩
  | .local .tc .vmem, ⟨6, _⟩ => ⟨S1x1x128, .f32⟩
  | .local .tc .vmem, ⟨7, _⟩ => ⟨S1x1x128, .f32⟩
  | .local .scVector .vmem, ⟨0, _⟩ => ⟨S1600, .i32⟩
  | .local .scVector .vmem, ⟨1, _⟩ => ⟨S1600, .f32⟩
  | _, _ => ⟨S1024x50x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v6 : BitVec 32 := Scalar.muli v1 c1600_i32
  ![v6.toNat]
@[reducible] def k0_t1_loop : Scf.Loop 32 :=
  let c0_i32_2 : BitVec 32 := 0#32
  let c32_i32 : BitVec 32 := 32#32
  let v7 : BitVec 32 := Scalar.addi c0_i32_2 c32_i32
  let c1_i32 : BitVec 32 := 1#32
  ⟨c0_i32_2, v7, c1_i32⟩

def k0_chk1 (v17 : IVec S16 32) : Prop :=
  (∀ a x, ((![v17] : Fin 1 → IVec S16 32) a x).toNat < S1600.size a)
theorem k0_idx1_inb : ∀ (v17 : IVec S16 32) (k0_hw1 : k0_chk1 v17), ∀ a x, ((![v17] : Fin 1 → IVec S16 32) a x).toNat < S1600.size a := fun v17 k0_hw1 => k0_hw1

def k0_chk2 (v38 : IVec S16 32) : Prop :=
  (∀ a x, ((![v38] : Fin 1 → IVec S16 32) a x).toNat < S1600.size a)
theorem k0_idx2_inb : ∀ (v38 : IVec S16 32) (k0_hw2 : k0_chk2 v38), ∀ a x, ((![v38] : Fin 1 → IVec S16 32) a x).toNat < S1600.size a := fun v38 k0_hw2 => k0_hw2

def k0_chk3 (v59 : IVec S16 32) : Prop :=
  (∀ a x, ((![v59] : Fin 1 → IVec S16 32) a x).toNat < S1600.size a)
theorem k0_idx3_inb : ∀ (v59 : IVec S16 32) (k0_hw3 : k0_chk3 v59), ∀ a x, ((![v59] : Fin 1 → IVec S16 32) a x).toNat < S1600.size a := fun v59 k0_hw3 => k0_hw3

def k0_chk4 (v80 : IVec S16 32) : Prop :=
  (∀ a x, ((![v80] : Fin 1 → IVec S16 32) a x).toNat < S1600.size a)
theorem k0_idx4_inb : ∀ (v80 : IVec S16 32) (k0_hw4 : k0_chk4 v80), ∀ a x, ((![v80] : Fin 1 → IVec S16 32) a x).toNat < S1600.size a := fun v80 k0_hw4 => k0_hw4

def k0_chk5 (v107 : IVec S16 32) : Prop :=
  (∀ a x, ((![v107] : Fin 1 → IVec S16 32) a x).toNat < S1600.size a)
theorem k0_idx5_inb : ∀ (v107 : IVec S16 32) (k0_hw5 : k0_chk5 v107), ∀ a x, ((![v107] : Fin 1 → IVec S16 32) a x).toNat < S1600.size a := fun v107 k0_hw5 => k0_hw5

def k0_chk6 (v118 : IVec S16 32) : Prop :=
  (∀ a x, ((![v118] : Fin 1 → IVec S16 32) a x).toNat < S1600.size a)
theorem k0_idx6_inb : ∀ (v118 : IVec S16 32) (k0_hw6 : k0_chk6 v118), ∀ a x, ((![v118] : Fin 1 → IVec S16 32) a x).toNat < S1600.size a := fun v118 k0_hw6 => k0_hw6

def k0_chk7 (v129 : IVec S16 32) : Prop :=
  (∀ a x, ((![v129] : Fin 1 → IVec S16 32) a x).toNat < S1600.size a)
theorem k0_idx7_inb : ∀ (v129 : IVec S16 32) (k0_hw7 : k0_chk7 v129), ∀ a x, ((![v129] : Fin 1 → IVec S16 32) a x).toNat < S1600.size a := fun v129 k0_hw7 => k0_hw7

def k0_chk8 (v140 : IVec S16 32) : Prop :=
  (∀ a x, ((![v140] : Fin 1 → IVec S16 32) a x).toNat < S1600.size a)
theorem k0_idx8_inb : ∀ (v140 : IVec S16 32) (k0_hw8 : k0_chk8 v140), ∀ a x, ((![v140] : Fin 1 → IVec S16 32) a x).toNat < S1600.size a := fun v140 k0_hw8 => k0_hw8
abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x50x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x50 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x50 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50x1000 : Shape := ⟨3, ![1024, 50, 1000]⟩
abbrev S1024x50 : Shape := ⟨2, ![1024, 50]⟩
abbrev S_ : Shape := ⟨0, ![]⟩
abbrev S1024 : Shape := ⟨1, ![1024]⟩
abbrev S50 : Shape := ⟨1, ![50]⟩
abbrev S1x50 : Shape := ⟨2, ![1, 50]⟩
abbrev S1024x1 : Shape := ⟨2, ![1024, 1]⟩
abbrev S51200x1 : Shape := ⟨2, ![51200, 1]⟩
abbrev S51200x1000 : Shape := ⟨2, ![51200, 1000]⟩
abbrev S51200x1x1 : Shape := ⟨3, ![51200, 1, 1]⟩
abbrev S1 : Shape := ⟨1, ![1]⟩
abbrev S1x1x1 : Shape := ⟨3, ![1, 1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1024x50x1000, .f32⟩
  | .hbm, ⟨1, _⟩ => ⟨S1024x50, .i32⟩
  | .hbm, ⟨2, _⟩ => ⟨S_, .i32⟩
  | .hbm, ⟨3, _⟩ => ⟨S1024x50, .i32⟩
  | .hbm, ⟨4, _⟩ => ⟨S1024x50, .i1⟩
  | .hbm, ⟨5, _⟩ => ⟨S1024x50, .i32⟩
  | .hbm, ⟨6, _⟩ => ⟨S_, .i32⟩
  | .hbm, ⟨7, _⟩ => ⟨S1024, .i32⟩
  | .hbm, ⟨8, _⟩ => ⟨S50, .i32⟩
  | .hbm, ⟨9, _⟩ => ⟨S1x50, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x50, .i32⟩
  | .hbm, ⟨15, _⟩ => ⟨S1024x50, .i32⟩
  | .hbm, ⟨16, _⟩ => ⟨S1024x50, .i1⟩
  | .hbm, ⟨17, _⟩ => ⟨S1024x50, .f32⟩
  | .hbm, ⟨18, _⟩ => ⟨S51200x1, .f32⟩
  | .hbm, ⟨19, _⟩ => ⟨S51200x1000, .f32⟩
  | .hbm, ⟨20, _⟩ => ⟨S51200x1, .i32⟩
  | .hbm, ⟨21, _⟩ => ⟨S_, .i32⟩
  | .hbm, ⟨22, _⟩ => ⟨S51200x1, .i32⟩
  | .hbm, ⟨23, _⟩ => ⟨S51200x1, .i1⟩
  | .hbm, ⟨24, _⟩ => ⟨S_, .i32⟩
  | .hbm, ⟨25, _⟩ => ⟨S51200x1, .i32⟩
  | .hbm, ⟨26, _⟩ => ⟨S51200x1, .i32⟩
  | .hbm, ⟨27, _⟩ => ⟨S51200x1, .i32⟩
  | .hbm, ⟨28, _⟩ => ⟨S51200x1x1, .i32⟩
  | .hbm, ⟨29, _⟩ => ⟨S1, .i32⟩
  | .hbm, ⟨30, _⟩ => ⟨S_, .i32⟩
  | .hbm, ⟨31, _⟩ => ⟨S51200x1x1, .i32⟩
  | .hbm, ⟨32, _⟩ => ⟨S51200x1x1, .i1⟩
  | .hbm, ⟨33, _⟩ => ⟨S1x1x1, .i32⟩
  | .hbm, ⟨34, _⟩ => ⟨S51200x1x1, .i32⟩
  | .hbm, ⟨35, _⟩ => ⟨S51200x1x1, .i1⟩
  | .hbm, ⟨36, _⟩ => ⟨S51200x1x1, .i1⟩
  | .hbm, ⟨37, _⟩ => ⟨S_, .i1⟩
  | .hbm, ⟨38, _⟩ => ⟨S51200x1, .i1⟩
  | .hbm, ⟨39, _⟩ => ⟨S51200x1, .f32⟩
  | .hbm, ⟨40, _⟩ => ⟨S_, .f32⟩
  | .hbm, ⟨41, _⟩ => ⟨S51200x1, .f32⟩
  | .hbm, ⟨42, _⟩ => ⟨S51200x1, .f32⟩
  | .hbm, ⟨43, _⟩ => ⟨S51200x1, .f32⟩
  | .hbm, ⟨44, _⟩ => ⟨S51200x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S1024x50x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩

abbrev nD : Nat := 1
abbrev τ : Topo := Topo.v7x

variable {F : FTy → Type} [FloatOps F]
-- ==== Proof.Mask.lean ====
/- What one row of the mask is, and that the tile's chunk computations compute it: the pure facts
   the tile's loop body rests on. -/
module

public import proofs.«01_k».proof.Proof.Gen.KernelIdeal.Skeleton

@[expose] public section

noncomputable section

namespace Cert.Proof

open Idealize.ShloMosaic Idealize.SL.Sem Cert.KernelIdeal

/-! ## The mathematics of a row -/

/-- Position `k` of a rank-one shape of `n` elements. -/
def ix {n : ℕ} (k : ℕ) (h : k < n) : (⟨1, ![n]⟩ : Shape).Idx := fun a => ⟨k, by rw [Fin.eq_zero a]; exact h⟩

theorem ix_eta {n : ℕ} (x : (⟨1, ![n]⟩ : Shape).Idx) : ix (x 0).val (x 0).isLt = x := by
  funext a; obtain rfl := Fin.eq_zero a; rfl

theorem ix_ext {n : ℕ} {x y : (⟨1, ![n]⟩ : Shape).Idx} (h : (x 0).val = (y 0).val) : x = y := by
  funext a; obtain rfl := Fin.eq_zero a; exact Fin.ext h

/-- The word at position `k` of a flat vector of words, zero past its end. -/
def wordAt {n : ℕ} (g : (⟨1, ![n]⟩ : Shape).Idx → BitVec 32) (k : ℕ) : BitVec 32 :=
  if h : k < n then g (ix k h) else 0

theorem wordAt_eq {n : ℕ} (g : (⟨1, ![n]⟩ : Shape).Idx → BitVec 32) (x : (⟨1, ![n]⟩ : Shape).Idx) (k : ℕ) (h : (x 0).val = k) :
    wordAt g k = g x := by
  subst h
  unfold wordAt
  split
  · exact congrArg g (ix_eta x)
  · rename_i h; exact absurd (x 0).isLt h

/-- One for a position of row `r` (fifty words a row) that holds a positive word, else zero. -/
def hit {n : ℕ} (g : (⟨1, ![n]⟩ : Shape).Idx → BitVec 32) (r p : ℕ) : ℕ :=
  if (0#32).slt (wordAt g (50 * r + p)) then 1 else 0

/-- How many of the fifty words of row `r` are positive. -/
def rowCount {n : ℕ} (g : (⟨1, ![n]⟩ : Shape).Idx → BitVec 32) (r : ℕ) : ℕ :=
  ∑ p ∈ Finset.range 50, hit g r p

theorem hit_le {n : ℕ} (g : (⟨1, ![n]⟩ : Shape).Idx → BitVec 32) (r p : ℕ) : hit g r p ≤ 1 := by
  unfold hit; split <;> omega

theorem rowCount_le {n : ℕ} (g : (⟨1, ![n]⟩ : Shape).Idx → BitVec 32) (r : ℕ) : rowCount g r ≤ 50 := by
  refine (Finset.sum_le_sum fun p _ => hit_le g r p).trans ?_
  simp

variable {F : FTy → Type} [FloatOps F]

/-- The mask of a flat vector of words: one at a position no later in its row than the row's count
    of positive words, else zero. -/
def maskOf {n : ℕ} (g : (⟨1, ![n]⟩ : Shape).Idx → BitVec 32) : (⟨1, ![n]⟩ : Shape).Idx → F .f32 := fun j =>
  if (j 0).val % 50 ≤ rowCount g ((j 0).val / 50) then Scalar.ofBits .f32 0x3F800000#32 else Scalar.ofBits .f32 0x00000000#32

/-! ## The chunk computations of the loop body -/

/-- The lane numbers. -/
def lanes : IVec S16 32 := iota .scVector S16 32 [0] Gen.facts.iota_S16_d0_w32_scVector

/-- The positions in the row of the sixteen lanes of the chunk that starts at `o`. -/
def posOf (o : ℕ) : IVec S16 32 := addi (broadcast S16 (BitVec.ofNat 32 o)) lanes

/-- Which of those positions lie inside the row. -/
def inRow (o : ℕ) : IVec S16 1 := cmpi .slt (posOf o) (broadcast S16 50#32)

/-- The places in the tile's memory of the chunk's lanes, of row `r`; zero for a lane past the row's end. -/
def placeOf (r : BitVec 32) (o : ℕ) : IVec S16 32 :=
  select (inRow o) (addi (broadcast S16 (Scalar.muli r 50#32)) (posOf o)) (broadcast S16 0#32)

/-- The chunk's count of positive words, on every lane. -/
def countOf (o : ℕ) (v : IVec S16 32) : IVec S16 32 :=
  broadcast S16 (extractAt ![15] (scan .sum (select (andi (inRow o) (cmpi .sgt v (broadcast S16 0#32)))
    (broadcast S16 1#32) (broadcast S16 0#32))) Gen.facts.inpos_S16_p15)

/-- The first position past the mask: one more than the count, at most fifty. -/
def limitOf (n : IVec S16 32) : IVec S16 32 := minsi (addi n (broadcast S16 1#32)) (broadcast S16 50#32)

/-- The mask's values on the chunk's lanes. -/
def valuesOf (o : ℕ) (l : IVec S16 32) : FVec F S16 .f32 :=
  select (cmpi .slt (posOf o) l) (broadcast S16 (Scalar.ofBits .f32 0x3F800000#32)) (broadcast S16 (Scalar.ofBits .f32 0x00000000#32))

/-- Lane `k`. -/
def lane (k : Fin 16) : S16.Idx := Shape.ofLane (d := ![16]) k

theorem lane_eta (x : S16.Idx) : lane ⟨(x 0).val, (x 0).isLt⟩ = x := ix_eta x

theorem lanes_apply (k : Fin 16) : lanes (lane k) = BitVec.ofNat 32 k.val := by
  show BitVec.ofNat 32 (0 * 16 + k.val) = _
  rw [Nat.zero_mul, Nat.zero_add]

/-- The start of chunk `c`. -/
def start (c : Fin 4) : ℕ := 16 * c.val

theorem inRow_apply (c : Fin 4) (k : Fin 16) : inRow (start c) (lane k) = if start c + k.val < 50 then 1#1 else 0#1 := by
  show IntOp.cmpi .slt (IntOp.addi (BitVec.ofNat 32 (start c)) (lanes (lane k))) 50#32 = _
  rw [lanes_apply]; revert c k; decide +kernel

theorem placeOf_apply (t : Fin 32) (c : Fin 4) (k : Fin 16) :
    (placeOf (BitVec.ofNat 32 t.val) (start c) (lane k)).toNat
      = if start c + k.val < 50 then 50 * t.val + (start c + k.val) else 0 := by
  show (Scalar.select (inRow (start c) (lane k)) (IntOp.addi (IntOp.muli (BitVec.ofNat 32 t.val) 50#32)
    (IntOp.addi (BitVec.ofNat 32 (start c)) (lanes (lane k)))) 0#32).toNat = _
  rw [inRow_apply, lanes_apply]; revert t c k; decide +kernel

theorem placeOf_lt (t : Fin 32) (c : Fin 4) (x : S16.Idx) : (placeOf (BitVec.ofNat 32 t.val) (start c) x).toNat < 1600 := by
  rw [← lane_eta x, placeOf_apply]
  have := t.isLt
  split <;> omega

/-- Every chunk's places are inside the tile's memory. -/
theorem place_inb (t : Fin 32) (c : Fin 4) :
    ∀ a x, ((![placeOf (BitVec.ofNat 32 t.val) (start c)] : Fin 1 → IVec S16 32) a x).toNat < S1600.size a := by
  intro a x
  obtain rfl := Fin.eq_zero a
  exact placeOf_lt t c x

/-! ## The count -/

/-- The scan's last lane is the sum of the sixteen lanes. -/
theorem scan_last (v : IVec S16 32) (n : Fin 16 → ℕ) (h : ∀ k, v (lane k) = BitVec.ofNat 32 (n k)) :
    extractAt ![15] (scan .sum v) Gen.facts.inpos_S16_p15 = BitVec.ofNat 32 (∑ k, n k) := by
  have e : extractAt ![15] (scan .sum v) Gen.facts.inpos_S16_p15
      = [1, 2, 3, 4, 5, 6, 7, 8, 9, 10, 11, 12, 13, 14, 15].foldl (fun r (k : Fin 16) => r + v (lane k)) (v (lane 0)) := rfl
  rw [e]
  simp only [List.foldl, h, ← BitVec.ofNat_add, Fin.sum_univ_succ, Fin.sum_univ_zero]
  congr 1
  simp only [add_assoc]
  rfl

theorem hit_chunk {g : S1600.Idx → BitVec 32} (t : Fin 32) (c : Fin 4) (k : Fin 16) :
    select (andi (inRow (start c)) (cmpi .sgt (loadIdx (F := F) (e := .i32) g ![placeOf (BitVec.ofNat 32 t.val) (start c)] (place_inb t c))
      (broadcast S16 0#32))) (broadcast S16 1#32) (broadcast S16 0#32) (lane k)
      = BitVec.ofNat 32 (if start c + k.val < 50 then hit g t.val (start c + k.val) else 0) := by
  show Scalar.select (IntOp.andi (inRow (start c) (lane k)) (IntOp.cmpi .sgt (g (idxAt ![placeOf (BitVec.ofNat 32 t.val) (start c)] (place_inb t c) (lane k))) 0#32)) 1#32 0#32 = _
  rw [inRow_apply]
  split
  · rename_i h
    have e : wordAt g (50 * t.val + (start c + k.val)) = g (idxAt ![placeOf (BitVec.ofNat 32 t.val) (start c)] (place_inb t c) (lane k)) :=
      wordAt_eq (n := 1600) g _ _ ((placeOf_apply t c k).trans (if_pos h))
    rw [hit, e]
    generalize g _ = w
    show Scalar.select (IntOp.andi 1#1 (BitVec.ofBool ((0#32).slt w))) 1#32 0#32 = _
    cases (0#32).slt w <;> rfl
  · generalize IntOp.cmpi _ _ _ = b
    show Scalar.select (0#1 &&& b) 1#32 0#32 = _
    rw [BitVec.zero_and]; rfl

theorem countOf_load {g : S1600.Idx → BitVec 32} (t : Fin 32) (c : Fin 4) :
    countOf (start c) (loadIdx (F := F) (e := .i32) g ![placeOf (BitVec.ofNat 32 t.val) (start c)] (place_inb t c))
      = broadcast S16 (BitVec.ofNat 32 (∑ k : Fin 16, if start c + k.val < 50 then hit g t.val (start c + k.val) else 0)) := by
  unfold countOf
  rw [scan_last _ _ (hit_chunk t c)]

/-- Four chunks of sixteen, cut at fifty, are the fifty. -/
theorem sum_chunks (f : ℕ → ℕ) :
    (∑ k : Fin 16, if start 0 + k.val < 50 then f (start 0 + k.val) else 0) + (∑ k : Fin 16, if start 1 + k.val < 50 then f (start 1 + k.val) else 0)
      + (∑ k : Fin 16, if start 2 + k.val < 50 then f (start 2 + k.val) else 0) + (∑ k : Fin 16, if start 3 + k.val < 50 then f (start 3 + k.val) else 0)
      = ∑ p ∈ Finset.range 50, f p := by
  rw [Fin.sum_univ_eq_sum_range (fun k => if start 0 + k < 50 then f (start 0 + k) else 0) 16,
    Fin.sum_univ_eq_sum_range (fun k => if start 1 + k < 50 then f (start 1 + k) else 0) 16,
    Fin.sum_univ_eq_sum_range (fun k => if start 2 + k < 50 then f (start 2 + k) else 0) 16,
    Fin.sum_univ_eq_sum_range (fun k => if start 3 + k < 50 then f (start 3 + k) else 0) 16]
  rw [show start 0 = 0 from rfl, show start 1 = 16 from rfl, show start 2 = 32 from rfl, show start 3 = 48 from rfl]
  simp [Finset.sum_range_succ]
  omega

/-- The four chunks' counts together: the row's count (the row's number also as the loop spells it, `r`). -/
theorem total_count {g : S1600.Idx → BitVec 32} (t : Fin 32) (r : BitVec 32) (hr : r = BitVec.ofNat 32 t.val)
    (h0 : ∀ a x, ((![placeOf r (start 0)] : Fin 1 → IVec S16 32) a x).toNat < S1600.size a)
    (h1 : ∀ a x, ((![placeOf r (start 1)] : Fin 1 → IVec S16 32) a x).toNat < S1600.size a) :
    addi (addi (addi (addi (broadcast S16 0#32)
      (countOf (start 0) (loadIdx (F := F) (e := .i32) g ![placeOf r (start 0)] h0)))
      (countOf (start 1) (loadIdx (F := F) (e := .i32) g ![placeOf r (start 1)] h1)))
      (countOf (start 2) (loadIdx (F := F) (e := .i32) g ![placeOf (BitVec.ofNat 32 t.val) (start 2)] (place_inb t 2))))
      (countOf (start 3) (loadIdx (F := F) (e := .i32) g ![placeOf (BitVec.ofNat 32 t.val) (start 3)] (place_inb t 3)))
      = broadcast S16 (BitVec.ofNat 32 (rowCount g t.val)) := by
  subst hr
  rw [countOf_load, countOf_load, countOf_load, countOf_load, rowCount, ← sum_chunks]
  funext x
  show (((0#32 + _) + _) + _) + _ = _
  rw [BitVec.zero_add]
  simp only [broadcast, ← BitVec.ofNat_add]

/-! ## The values -/

theorem slt_limit (n : Fin 51) (p : Fin 50) :
    IntOp.cmpi .slt (BitVec.ofNat 32 p.val) (IntOp.minsi (IntOp.addi (BitVec.ofNat 32 n.val) 1#32) 50#32) = if p.val ≤ n.val then 1#1 else 0#1 := by
  revert n p; decide +kernel

theorem valuesOf_apply (n : ℕ) (hn : n ≤ 50) (c : Fin 4) (k : Fin 16) (h : start c + k.val < 50) :
    valuesOf (F := F) (start c) (limitOf (broadcast S16 (BitVec.ofNat 32 n))) (lane k)
      = if start c + k.val ≤ n then Scalar.ofBits .f32 0x3F800000#32 else Scalar.ofBits .f32 0x00000000#32 := by
  show Scalar.select (IntOp.cmpi .slt (IntOp.addi (BitVec.ofNat 32 (start c)) (lanes (lane k)))
    (IntOp.minsi (IntOp.addi (BitVec.ofNat 32 n) 1#32) 50#32)) _ _ = _
  rw [lanes_apply, IntOp.addi, ← BitVec.ofNat_add, slt_limit ⟨n, by omega⟩ ⟨start c + k.val, h⟩]
  show Scalar.select (if start c + k.val ≤ n then 1#1 else 0#1) _ _ = _
  split <;> rfl

/-! ## The scatter -/

section
variable {s : Shape} {α : Type} {ι : Type} [D : ∀ i j : s.Idx, Decidable (∀ a, (j a).val = (i a).val)]

/-- A run of conditional overwrites leaves a place no lane names as it was. -/
theorem overwrite_none (l : List ι) (P : ι → Prop) [DecidablePred P] (at_ : ι → s.Idx) (v : ι → α) (f : s.Idx → α) (j : s.Idx)
    (h : ∀ k ∈ l, P k → ¬ ∀ a, (j a).val = (at_ k a).val) :
    l.foldl (fun g k => if P k then fun j => if ∀ a, (j a).val = (at_ k a).val then v k else g j else g) f j = f j := by
  induction l generalizing f with
  | nil => rfl
  | cons k l ih =>
    rw [List.foldl_cons, ih _ fun k hk => h k (List.mem_cons_of_mem _ hk)]
    by_cases hp : P k
    · rw [if_pos hp, if_neg (h k List.mem_cons_self hp)]
    · rw [if_neg hp]

/-- A run of conditional overwrites, all of whose lanes that name a place carry one value, leaves that value there. -/
theorem overwrite_some (l : List ι) (P : ι → Prop) [DecidablePred P] (at_ : ι → s.Idx) (v : ι → α) (f : s.Idx → α) (j : s.Idx) (y : α)
    (h : ∀ k ∈ l, P k → (∀ a, (j a).val = (at_ k a).val) → v k = y) (he : f j = y ∨ ∃ k ∈ l, P k ∧ ∀ a, (j a).val = (at_ k a).val) :
    l.foldl (fun g k => if P k then fun j => if ∀ a, (j a).val = (at_ k a).val then v k else g j else g) f j = y := by
  induction l generalizing f with
  | nil => rcases he with he | ⟨k, hk, _⟩; exacts [he, absurd hk List.not_mem_nil]
  | cons k l ih =>
    rw [List.foldl_cons]
    refine ih _ (fun k hk => h k (List.mem_cons_of_mem _ hk)) ?_
    by_cases hp : P k
    · rw [if_pos hp]
      by_cases ha : ∀ a, (j a).val = (at_ k a).val
      · exact Or.inl ((if_pos ha).trans (h k List.mem_cons_self hp ha))
      · rcases he with he | ⟨k', hk', hp', ha'⟩
        · exact Or.inl ((if_neg ha).trans he)
        · rcases List.mem_cons.mp hk' with rfl | hk'
          · exact absurd ha' ha
          · exact Or.inr ⟨k', hk', hp', ha'⟩
    · rw [if_neg hp]
      rcases he with he | ⟨k', hk', hp', ha'⟩
      · exact Or.inl he
      · rcases List.mem_cons.mp hk' with rfl | hk'
        · exact absurd hp' hp
        · exact Or.inr ⟨k', hk', hp', ha'⟩

end

/-- A scatter leaves a place no active lane names as it was. -/
theorem storeIdx_none (f : S1600.Idx → F .f32) (p : IVec S16 32) (v : FVec F S16 .f32) (m : IVec S16 1)
    (hp : ∀ a x, ((![p] : Fin 1 → IVec S16 32) a x).toNat < S1600.size a) (j : S1600.Idx)
    (h : ∀ k : Fin 16, m (lane k) = 1 → (j 0).val ≠ (p (lane k)).toNat) :
    storeIdx (F := F) (e := .f32) f ![p] v m false hp j = f j :=
  overwrite_none (s := S1600) (D := fun _ _ => Nat.decidableForallFin _) (List.finRange 16) (fun k => m (lane k) = 1) (fun k => idxAt (s := S1600) ![p] hp (lane k)) (fun k => v (lane k)) f j
    fun k _ hk ha => h k hk (ha 0)

/-- A scatter leaves, at a place some active lane names, the value that every such lane carries. -/
theorem storeIdx_some (f : S1600.Idx → F .f32) (p : IVec S16 32) (v : FVec F S16 .f32) (m : IVec S16 1)
    (hp : ∀ a x, ((![p] : Fin 1 → IVec S16 32) a x).toNat < S1600.size a) (j : S1600.Idx) (y : F .f32)
    (h : ∀ k : Fin 16, m (lane k) = 1 → (j 0).val = (p (lane k)).toNat → v (lane k) = y)
    (he : ∃ k : Fin 16, m (lane k) = 1 ∧ (j 0).val = (p (lane k)).toNat) :
    storeIdx (F := F) (e := .f32) f ![p] v m false hp j = y :=
  overwrite_some (s := S1600) (D := fun _ _ => Nat.decidableForallFin _) (List.finRange 16) (fun k => m (lane k) = 1) (fun k => idxAt (s := S1600) ![p] hp (lane k)) (fun k => v (lane k)) f j y
    (fun k _ hk ha => h k hk (ha 0))
    (Or.inr (he.imp fun k hk => ⟨List.mem_finRange _, hk.1, fun a => by obtain rfl := Fin.eq_zero a; exact hk.2⟩))

/-- Storing a chunk's lanes writes exactly the chunk's positions that lie in the row, each with its lane's value. -/
theorem store_chunk (t : Fin 32) (c : Fin 4) (f : S1600.Idx → F .f32) (v : FVec F S16 .f32) (w : ℕ → F .f32)
    (hv : ∀ k : Fin 16, start c + k.val < 50 → v (lane k) = w (start c + k.val)) (j : S1600.Idx) :
    storeIdx (F := F) (e := .f32) f ![placeOf (BitVec.ofNat 32 t.val) (start c)] v (inRow (start c)) false (place_inb t c) j
      = if 50 * t.val + start c ≤ (j 0).val ∧ (j 0).val < 50 * t.val + start c + 16 ∧ (j 0).val < 50 * t.val + 50
        then w ((j 0).val - 50 * t.val) else f j := by
  have key : ∀ k : Fin 16, (inRow (start c) (lane k) = 1 ↔ start c + k.val < 50) := fun k => by
    rw [inRow_apply]; split <;> simp_all
  have named : ∀ k : Fin 16, start c + k.val < 50 → (placeOf (BitVec.ofNat 32 t.val) (start c) (lane k)).toNat = 50 * t.val + (start c + k.val) :=
    fun k hk => (placeOf_apply t c k).trans (if_pos hk)
  split
  · rename_i h
    refine storeIdx_some f _ v _ _ j _ ?_ ?_
    · intro k hp ha
      have hk := (key k).mp hp
      rw [hv k hk, ha, named k hk, Nat.add_sub_cancel_left]
    · have hk : start c + ((j 0).val - 50 * t.val - start c) < 50 := by omega
      refine ⟨⟨(j 0).val - 50 * t.val - start c, by omega⟩, (key _).mpr hk, ?_⟩
      rw [named _ hk]
      show (j 0).val = 50 * t.val + (start c + ((j 0).val - 50 * t.val - start c))
      omega
  · rename_i h
    refine storeIdx_none f _ v _ _ j ?_
    intro k hp ha
    have hk := (key k).mp hp
    have := (named k hk).symm.trans ha.symm
    have := k.isLt
    omega

/-- One trip's four stores: row `t` of the mask is written, and the rest of the tile's mask kept. -/
theorem row_stores (t : Fin 32) (g : S1600.Idx → BitVec 32) (f : S1600.Idx → F .f32) (l : IVec S16 32)
    (hl : l = limitOf (broadcast S16 (BitVec.ofNat 32 (rowCount (n := 1600) g t.val))))
    (hf : ∀ j : S1600.Idx, (j 0).val < 50 * t.val → f j = maskOf (n := 1600) g j) (j : S1600.Idx) (hj : (j 0).val < 50 * (t.val + 1)) :
    storeIdx (F := F) (e := .f32)
      (storeIdx (F := F) (e := .f32)
        (storeIdx (F := F) (e := .f32)
          (storeIdx (F := F) (e := .f32) f ![placeOf (BitVec.ofNat 32 t.val) (start 0)] (valuesOf (start 0) l) (inRow (start 0)) false (place_inb t 0))
          ![placeOf (BitVec.ofNat 32 t.val) (start 1)] (valuesOf (start 1) l) (inRow (start 1)) false (place_inb t 1))
        ![placeOf (BitVec.ofNat 32 t.val) (start 2)] (valuesOf (start 2) l) (inRow (start 2)) false (place_inb t 2))
      ![placeOf (BitVec.ofNat 32 t.val) (start 3)] (valuesOf (start 3) l) (inRow (start 3)) false (place_inb t 3) j
      = maskOf (n := 1600) g j := by
  subst hl
  have hv := fun c k => valuesOf_apply (F := F) (rowCount (n := 1600) g t.val) (rowCount_le g t.val) c k
  let w : ℕ → F .f32 := fun p => if p ≤ rowCount (n := 1600) g t.val then Scalar.ofBits .f32 0x3F800000#32 else Scalar.ofBits .f32 0x00000000#32
  rw [store_chunk t 3 _ _ w (hv 3), store_chunk t 2 _ _ w (hv 2), store_chunk t 1 _ _ w (hv 1), store_chunk t 0 _ _ w (hv 0)]
  have s0 : start 0 = 0 := rfl
  have s1 : start 1 = 16 := rfl
  have s2 : start 2 = 32 := rfl
  have s3 : start 3 = 48 := rfl
  rw [s0, s1, s2, s3]
  by_cases h : (j 0).val < 50 * t.val
  · rw [if_neg (by omega), if_neg (by omega), if_neg (by omega), if_neg (by omega)]
    exact hf j h
  · have e : w ((j 0).val - 50 * t.val) = maskOf (n := 1600) g j := by
      have e1 : (j 0).val / 50 = t.val := by omega
      have e2 : (j 0).val % 50 = (j 0).val - 50 * t.val := by omega
      simp only [maskOf, e1, e2, w]
    rw [← e]
    split
    · rfl
    · split
      · rfl
      · split
        · rfl
        · rw [if_pos (by omega)]

/-- A tile's slice of the flat targets has the slice of the flat mask: both cut at a multiple of the row length. -/
theorem maskOf_slice (G : S51200.Idx → BitVec 32) (g : S1600.Idx → BitVec 32) (w : ℕ) (hw : w < 32)
    (hg : ∀ (x : S1600.Idx) (y : S51200.Idx), (y 0).val = 1600 * w + (x 0).val → g x = G y)
    (x : S1600.Idx) (y : S51200.Idx) (hy : (y 0).val = 1600 * w + (x 0).val) :
    maskOf (F := F) (n := 1600) g x = maskOf (F := F) (n := 51200) G y := by
  have hx : (x 0).val < 1600 := (x 0).isLt
  have e1 : (y 0).val / 50 = 32 * w + (x 0).val / 50 := by omega
  have e2 : (y 0).val % 50 = (x 0).val % 50 := by omega
  have e3 : rowCount (n := 1600) g ((x 0).val / 50) = rowCount (n := 51200) G ((y 0).val / 50) := by
    refine Finset.sum_congr rfl fun p hp => ?_
    have hp := Finset.mem_range.mp hp
    have a1 : 50 * ((x 0).val / 50) + p < 1600 := by omega
    have a2 : 50 * ((y 0).val / 50) + p < 51200 := by omega
    unfold hit wordAt
    rw [dif_pos a1, dif_pos a2, hg (ix _ a1) (ix _ a2) (by show 50 * ((y 0).val / 50) + p = 1600 * w + (50 * ((x 0).val / 50) + p); omega)]
  unfold maskOf
  rw [e2, e3]

end Cert.Proof
-- ==== Proof.Tile.lean ====
/- The SparseCore kernel's task on one tile: the program as the launch theorem sees it, what the call's
   handshakes carry, and the task run once at a symbolic core and tile. -/
module

public import proofs.«01_k».proof.Defs
public import proofs.«01_k».proof.Proof.Mask
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The launch memory and the buffers -/

variable (m : (ℓ : Loc nD τ sig) → Buf (Elt F) ℓ) (ρ : Dev nD → PrngReg)

/-- The flat targets and the flat mask, as locations of device `d`. -/
abbrev xLoc (d : Dev nD) : Loc nD τ sig := (SparseCore.T d).loc main_v0
abbrev oLoc (d : Dev nD) : Loc nD τ sig := (SparseCore.T d).loc main_v1

-- the kernel's memrefs as the body table passes them: the flat targets, the flat mask, the tile's two scratches
local notation "xV" => (Memref.whole Cert.KernelIdeal.main_v0_scv : Memref Cert.KernelIdeal.sig Kind.scVector Space.hbm Cert.KernelIdeal.S51200 EltTy.i32)
local notation "oV" => (Memref.whole Cert.KernelIdeal.main_v1_scv : Memref Cert.KernelIdeal.sig Kind.scVector Space.hbm Cert.KernelIdeal.S51200 EltTy.f32)
local notation "sI" => (Memref.whole Cert.KernelIdeal.cc0_scratch0 : Memref Cert.KernelIdeal.sig Kind.scVector Space.vmem Cert.KernelIdeal.S1600 EltTy.i32)
local notation "sC" => (Memref.whole Cert.KernelIdeal.cc0_scratch1 : Memref Cert.KernelIdeal.sig Kind.scVector Space.vmem Cert.KernelIdeal.S1600 EltTy.f32)

theorem hdiv : 32 ∣ S51200.size 0 := ⟨1600, rfl⟩

/-- The number of the work item of core `c`'s tile `i`. -/
def item (c : Fin 2) (i : Fin 16) : Fin 32 := ⟨2 * i.val + c.val, by omega⟩

/-- Work item `w`'s rows of the flat arrays. -/
abbrev part (w : Fin 32) : Rect S51200 := Rect.part (s := S51200) (a₀ := 0) hdiv w
abbrev partSet (w : Fin 32) : Finset S51200.Idx := ((xV).view.slice (part w)).set

variable [FloatOps F]

/-! ## What the handshakes carry -/

/-- The flat targets the call reads: the second argument's launch contents, row after row. -/
def tgt (d : Dev nD) : Buf (Elt F) (xLoc d) :=
  shapeCast S51200 (m ((SparseCore.T d).loc main_arg1) : S1024x50.Idx → BitVec 32) shapeCasts_S1024x50_S51200

/-- The flat mask the call leaves. -/
def mask (d : Dev nD) : Buf (Elt F) (oLoc d) := maskOf (n := 51200) (tgt m d)

abbrev xPts (d : Dev nD) (f : Buf (Elt F) (xLoc d)) : sProp 𝕄 := xLoc d ↦{fullShare} f
abbrev oPts (d : Dev nD) (f : Buf (Elt F) (oLoc d)) : sProp 𝕄 := oLoc d ↦{fullShare} f
abbrev xPart (d : Dev nD) (w : Fin 32) (f : Buf (Elt F) (xLoc d)) : sProp 𝕄 := xLoc d ↦[partSet w]{fullShare} f
abbrev oPart (d : Dev nD) (w : Fin 32) (f : Buf (Elt F) (oLoc d)) : sProp 𝕄 := oLoc d ↦[partSet w]{fullShare} f

/-- A tile's part of the arrays before the call: its targets, and its part of the mask at the launch contents. -/
abbrev before (d : Dev nD) (w : Fin 32) : sProp 𝕄 := iprop(xPart d w (tgt m d) ∗ oPart d w (m (oLoc d)))
/-- and after it: its part of the mask computed. -/
abbrev after (d : Dev nD) (w : Fin 32) : sProp 𝕄 := iprop(xPart d w (tgt m d) ∗ oPart d w (mask m d))

/-- The call hands each core its sixteen tiles' parts, and each tile its own; they come back with the mask computed. -/
def P : (K (F := F)).Pay (nD := nD) (Val := Elt F) (Name := ℕ) (U := UU) where
  st := fun q d c => match q with | 0 => bigSep Finset.univ fun i : Fin 16 => before m d (item (Fin.cast nCore_zero c) i)
  dn := fun q d c => match q with | 0 => bigSep Finset.univ fun i : Fin 16 => after m d (item (Fin.cast nCore_zero c) i)
  go := fun q d c i => match q with | 0 => before m d (item (Fin.cast nCore_zero c) (Fin.cast nSub_zero i))
  td := fun q d c i => match q with | 0 => after m d (item (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => before m d (item (Fin.cast nCore_zero c) i)))
  dn q d c := match q with
    | 0 => (inferInstance : BI.Storable (upEmb : UEmb _ 𝕄) (bigSep Finset.univ fun i : Fin 16 => after m d (item (Fin.cast nCore_zero c) i)))
  go q d c i := match q with
    | 0 => (inferInstance : BI.Storable (upEmb : UEmb _ 𝕄) (before m d (item (Fin.cast nCore_zero c) (Fin.cast nSub_zero i))))
  td q d c i := match q with
    | 0 => (inferInstance : BI.Storable (upEmb : UEmb _ 𝕄) (after m d (item (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The work item of the task at `L`. -/
abbrev itemAt (L : grid0.Coords) : Fin 32 := item (Fin.cast bound_zero (L 0)) (Fin.cast bound_one (L 1))

/-- The rectangle of the flat arrays the task addresses, as the body spells it. -/
abbrev rowK (L : grid0.Coords) : Rect S51200 := Rect.unit (s := S51200) (k0_off1 L) S1600.size (k0_off1_inb L)
abbrev xRowK (L : grid0.Coords) : Memref sig .scVector .hbm S1600 .i32 := (xV).slice (rowK L) (fun _ => rfl)
abbrev oRowK (L : grid0.Coords) : Memref sig .scVector .hbm S1600 .f32 := (oV).slice (rowK L) (fun _ => rfl)

omit [FloatOps F] in
theorem rowK_eq : rowK L = part (itemAt L) := by
  unfold rowK part Rect.part Rect.block
  congr 1 <;> funext a
  · rw [k0_off1_eq]
    match a with
    | 0 => simp [Shape.partIx, Shape.partSize, itemAt, item]; show 3200 * (L 1).val + 1600 * (L 0).val = (2 * (L 1).val + (L 0).val) * 1600; omega
  · match a with
    | 0 => simp [Shape.partSize]

omit [FloatOps F] in
theorem set_xRowK : (xRowK L).view.set = partSet (itemAt L) := by
  show ((xV).view.slice (rowK L)).set = ((xV).view.slice (part (itemAt L))).set
  exact rowK_eq L ▸ rfl
omit [FloatOps F] in
theorem set_oRowK : (oRowK L).view.set = partSet (itemAt L) := by
  show ((xV).view.slice (rowK L)).set = ((xV).view.slice (part (itemAt L))).set
  exact rowK_eq L ▸ rfl

omit [FloatOps F] in
theorem pts_xRowK (f : Buf (Elt F) (xLoc d)) :
    ((xRowK L).view.loc (V d (cV L) (jV L)) ↦[(xRowK L).view.set]{fullShare} f : sProp 𝕄) = xLoc d ↦[partSet (itemAt L)]{fullShare} f := by
  rw [set_xRowK]
omit [FloatOps F] in
theorem pts_oRowK (f : Buf (Elt F) (oLoc d)) :
    ((oRowK L).view.loc (V d (cV L) (jV L)) ↦[(oRowK L).view.set]{fullShare} f : sProp 𝕄) = oLoc d ↦[partSet (itemAt L)]{fullShare} f := by
  rw [set_oRowK]
omit [FloatOps F] in
theorem pts_sI (f : Buf (Elt F) ((V d (cV L) (jV L)).loc cc0_scratch0)) :
    ((sI).view.loc (V d (cV L) (jV L)) ↦{fullShare} f : sProp 𝕄) = (V d (cV L) (jV L)).loc cc0_scratch0 ↦{fullShare} f := rfl
omit [FloatOps F] in
theorem pts_sC (f : Buf (Elt F) ((V d (cV L) (jV L)).loc cc0_scratch1)) :
    ((sC).view.loc (V d (cV L) (jV L)) ↦{fullShare} f : sProp 𝕄) = (V d (cV L) (jV L)).loc cc0_scratch1 ↦{fullShare} f := rfl

/-- The two scoped DMA cells the body names: the fetch's and the write-out's. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The tile's own buffers are the two scratches, each at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### One trip of the loop: a row of the mask -/

/-- An indexed load of the tile's words, the words held. -/
theorem load_words {p : IVec S16 32} {h : ∀ a x, ((![p] : Fin 1 → IVec S16 32) a x).toNat < S1600.size a} {hl : (sI).view.Loads}
    {k : Vec F S16 .i32 → Prog (TpuEff nD τ sig (Elt F) Λ₀ (V d (cV L) (jV L)).2) PUnit} {Q : PUnit → sProp 𝕄}
    (g : Buf (Elt F) ((V d (cV L) (jV L)).loc cc0_scratch0)) :
    ((sI).view.loc (V d (cV L) (jV L)) ↦{fullShare} g : sProp 𝕄)
      ⊢ iprop((((sI).view.loc (V d (cV L) (jV L)) ↦{fullShare} g)
          -∗ wp frame (wpE (defs₀ (F := F)) 𝒱₀ (V d (cV L) (jV L)) none) Set.univ (k (loadIdx (F := F) (e := .i32) (s := S1600) g ![p] h)) Q)
        -∗ wp frame (wpE (defs₀ (F := F)) 𝒱₀ (V d (cV L) (jV L)) none) Set.univ (SparseCore.vectorLoadIdx sI ![p] h hl >>= k) Q) := by
  have := SparseCore.wp_vectorLoadIdx (defs := defs₀ (F := F)) 𝒱₀ (V d (cV L) (jV L)) none Set.univ (base := sI) (idxs := ![p]) (h := h) (hl := hl) (k := k) (Q := Q)
    (S := Finset.univ) (q := fullShare) (f := g) (Finset.subset_univ _)
  rw [Memref.read_access_whole] at this
  exact this

/-- An indexed store into the tile's mask, the mask held. -/
theorem store_floats {p : IVec S16 32} {v : FVec F S16 .f32} {mk : IVec S16 1} {h : ∀ a x, ((![p] : Fin 1 → IVec S16 32) a x).toNat < S1600.size a}
    {hs : ((sC).access (.whole S1600)).Stores Finset.univ}
    {k : PUnit → Prog (TpuEff nD τ sig (Elt F) Λ₀ (V d (cV L) (jV L)).2) PUnit} {Q : PUnit → sProp 𝕄}
    (f : Buf (Elt F) ((V d (cV L) (jV L)).loc cc0_scratch1)) :
    ((sC).view.loc (V d (cV L) (jV L)) ↦{fullShare} f : sProp 𝕄)
      ⊢ iprop((((sC).view.loc (V d (cV L) (jV L)) ↦{fullShare} (storeIdx (F := F) (e := .f32) (s := S1600) f ![p] v mk false h : Buf (Elt F) ((V d (cV L) (jV L)).loc cc0_scratch1)))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx sC ![p] v mk false h hs >>= k) Q) := by
  have := SparseCore.wp_vectorStoreIdx (defs := defs₀ (F := F)) 𝒱₀ (V d (cV L) (jV L)) none Set.univ (base := sC) (idxs := ![p]) (v := v) (mask := mk) (add := false)
    (h := h) (hs := hs) (k := k) (Q := Q) (f := f)
  rw [Memref.read_access_whole, Memref.write_access_whole_univ, Memref.set_access_whole] at this
  exact this

/-- A check that holds, at the head of a program: the program continues. -/
theorem check_step {p : Prop} {dp : Decidable p} (h : p)
    {k : PLift p → Prog (TpuEff nD τ sig (Elt F) Λ₀ (V d (cV L) (jV L)).2) PUnit} {Q : PUnit → sProp 𝕄} :
    wp frame (wpE (defs₀ (F := F)) 𝒱₀ (V d (cV L) (jV L)) none) Set.univ (Prog.lift (TpuEff.assume p dp) >>= k) Q
      = wp frame (wpE (defs₀ (F := F)) 𝒱₀ (V d (cV L) (jV L)) none) Set.univ (k ⟨h⟩) Q :=
  wp_assume_of 𝒱₀ _ _ _ h

/-- The row number of a trip. -/
theorem row_number (t : ℕ) : Scf.iv 0#32 1#32 t = BitVec.ofNat 32 t := by
  simp [Scf.iv]

/-- One trip: a row of the mask written, from the rows before it. -/
theorem trip (t : Fin k0_t1_loop.trips) (g : Buf (Elt F) ((V d (cV L) (jV L)).loc cc0_scratch0)) (f : Buf (Elt F) ((V d (cV L) (jV L)).loc cc0_scratch1))
    (hf : ∀ j : S1600.Idx, (j 0).val < 50 * t.val → f j = maskOf (F := F) (n := 1600) g j) :
    iprop(((sI).view.loc (V d (cV L) (jV L)) ↦{fullShare} g) ∗ ((sC).view.loc (V d (cV L) (jV L)) ↦{fullShare} f))
      ⊢ wp frame (wpE (defs₀ (F := F)) 𝒱₀ (V d (cV L) (jV L)) none) Set.univ
          (k0_t1_body L xV (Memref.isWhole_whole _) oV (Memref.isWhole_whole _) sI (Memref.isWhole_whole _) sC (Memref.isWhole_whole _) cc0_scoped0 cc0_scoped1
            lanes t ())
          fun _ => (iprop(((sI).view.loc (V d (cV L) (jV L)) ↦{fullShare} g)
            ∗ ∃ f' : Buf (Elt F) ((V d (cV L) (jV L)).loc cc0_scratch1), ⌜∀ j : S1600.Idx, (j 0).val < 50 * (t.val + 1) → f' j = maskOf (F := F) (n := 1600) g j⌝
              ∗ ((sC).view.loc (V d (cV L) (jV L)) ↦{fullShare} f')) : sProp 𝕄) := by
  obtain ⟨t', ht⟩ : ∃ t' : Fin 32, t'.val = t.val := ⟨⟨t.val, lt_of_lt_of_le t.isLt k0_t1_abs.2.1⟩, rfl⟩
  have hr : Scf.iv 0#32 1#32 t.val = BitVec.ofNat 32 t'.val := by rw [row_number, ht]
  unfold k0_t1_body
  rw [k0_part1_eq_skeleton, k0_part2_eq_skeleton, k0_part3_eq_skeleton]
  unfold k0_part1_skel k0_part2_skel k0_part3_skel
  -- the places the trip names are inside the tile's memory
  have c1 : k0_chk1 (k0_pay10 lanes 0#32 1#32 t) := by
    have e : k0_pay10 lanes 0#32 1#32 t = placeOf (Scf.iv 0#32 1#32 t.val) (start 0) := rfl
    rw [e, hr]; exact place_inb t' 0
  have c2 : k0_chk2 (k0_pay14 lanes 0#32 1#32 t) := by
    have e : k0_pay14 lanes 0#32 1#32 t = placeOf (Scf.iv 0#32 1#32 t.val) (start 1) := rfl
    rw [e, hr]; exact place_inb t' 1
  have c3 : k0_chk3 (k0_pay18 lanes (BitVec.ofNat 32 t'.val)) := place_inb t' 2
  have c4 : k0_chk4 (k0_pay22 lanes (BitVec.ofNat 32 t'.val)) := place_inb t' 3
  have c5 : k0_chk5 (k0_pay28 lanes (BitVec.ofNat 32 t'.val)) := place_inb t' 0
  have c6 : k0_chk6 (k0_pay32 lanes (BitVec.ofNat 32 t'.val)) := place_inb t' 1
  have c7 : k0_chk7 (k0_pay36 lanes (BitVec.ofNat 32 t'.val)) := place_inb t' 2
  have c8 : k0_chk8 (k0_pay7 (BitVec.ofNat 32 t'.val) k0_pay37) := place_inb t' 3
  simp only [bind_assoc, pure_bind, hr]
  iintro ⟨Hs, Hc⟩
  rw [check_step d L c1]; iapply (load_words d L g) $$ Hs; iintro Hs
  rw [check_step d L c2]; iapply (load_words d L g) $$ Hs; iintro Hs
  rw [check_step d L c3]; iapply (load_words d L g) $$ Hs; iintro Hs
  rw [check_step d L c4]; iapply (load_words d L g) $$ Hs; iintro Hs
  rw [check_step d L c5]; iapply (store_floats d L f) $$ Hc; iintro Hc
  rw [check_step d L c6]; iapply (store_floats d L _) $$ Hc; iintro Hc
  rw [check_step d L c7]; iapply (store_floats d L _) $$ Hc; iintro Hc
  rw [check_step d L c8]; iapply (store_floats d L _) $$ Hc; iintro Hc
  rw [wp_pure]
  imodintro
  isplitl [Hs]; · iexact Hs
  iexists _; isplitr
  swap; · iexact Hc
  ipureintro
  intro j hj
  refine row_stores (F := F) t' g f _ ?_ (fun j hj => hf j (by omega)) j (by omega)
  exact congrArg limitOf (total_count (F := F) (g := g) t' _ hr c1 c2)

/-! ### The task -/

/-- Before trip `n`: the tile's words, and its first `n` rows of the mask. -/
def rowsDone (g : Buf (Elt F) ((V d (cV L) (jV L)).loc cc0_scratch0)) (n : ℕ) (_ : PUnit) : sProp 𝕄 :=
  iprop(((sI).view.loc (V d (cV L) (jV L)) ↦{fullShare} g)
    ∗ ∃ f' : Buf (Elt F) ((V d (cV L) (jV L)).loc cc0_scratch1), ⌜∀ j : S1600.Idx, (j 0).val < 50 * n → f' j = maskOf (F := F) (n := 1600) g j⌝
      ∗ ((sC).view.loc (V d (cV L) (jV L)) ↦{fullShare} f'))

/-- The tile's words: its part of the flat targets. -/
def tileWords : S1600.Idx → BitVec 32 := (xRowK L).view.read (Elt F) (tgt m d)

/-- The place in the flat arrays of the tile's place `x`. -/
theorem place_val (x : S1600.Idx) : ((rowK L).emb x 0).val = 1600 * (itemAt L).val + (x 0).val := by
  rw [Rect.emb_apply]
  show k0_off1 L 0 + 1 * (x 0).val = 1600 * (2 * (L 1).val + (L 0).val) + (x 0).val
  rw [k0_off1_eq]
  show 3200 * (L 1).val + 1600 * (L 0).val + 1 * (x 0).val = _
  omega

omit [FloatOps F] in
/-- One write of a whole view leaves each written element in its place. -/
theorem written_emb {κ : Kind} {sp : Space} {s : Shape} {e : EltTy} (v : View sig κ sp s e) (f : v.ty.Contents (Elt F)) (w : s.Idx → Elt F e) (x : s.Idx) :
    v.writes (Elt F) f [⟨Rect.whole s, w⟩] (v.emb x) = cast (congrArg (Elt F) v.elt_eq.symm) (w x) := by
  rw [← congrFun (View.read_writes_whole v f w) x, View.read_apply, cast_cast, cast_eq]

/-- The tile's finished mask, written to its part of the flat mask, is the flat mask there. -/
theorem written_mask (w : S1600.Idx → F .f32) (hw : ∀ x, w x = maskOf (F := F) (n := 1600) (tileWords m d L) x)
    (i : S51200.Idx) (hi : i ∈ (oRowK L).view.set) :
    (oRowK L).view.writes (Elt F) (m (oLoc d)) [⟨Rect.whole S1600, w⟩] i = mask m d i := by
  obtain ⟨x, -, rfl⟩ := Finset.mem_map.mp hi
  refine (written_emb (oRowK L).view (m (oLoc d)) w x).trans ?_
  show w x = mask m d ((rowK L).emb x)
  rw [hw]
  refine maskOf_slice (tgt m d) (tileWords m d L) (itemAt L).val (itemAt L).isLt (fun x y hy => ?_) x _ (place_val L x)
  show tgt m d ((rowK L).emb x) = tgt m d y
  exact congrArg _ (ix_ext ((place_val L x).trans hy.symm))

/-- A tile's task: from its part of the targets and of the mask, its two scratches and its DMA cells, it ends with the mask of its
    part computed and everything else given back. -/
theorem tile_body (hF : (K (F := F)).Facts) (O : CellTallies nD τ sig (HIx 1)) (W : Waits sig (HIx 1)) (hO : ∀ g, O g none = 0) :
    iprop(levAts (K (F := F)).L (K (F := F)).lev ∗ emp ∗ before m d (itemAt L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_mask L xV (Memref.isWhole_whole _) oV (Memref.isWhole_whole _) sI (Memref.isWhole_whole _) sC (Memref.isWhole_whole _) cc0_scoped0 cc0_scoped1)
          fun _ => iprop(after m d (itemAt L) ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  rw [cc0_sc_mask_eq_skeleton]; unfold cc0_sc_mask_skel
  iintro ⟨#Hlv, -, ⟨Hx, Ho⟩, ⟨⟨%fs, Hs⟩, ⟨%fc, Hc⟩, Hbufs⟩, ⟨HsemA, HsemB, Hsems⟩, HO⟩
  -- the waits' evidence: everything the tile owes lies above its DMA cells
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xRowK (F := F) d L _).symm) $$ Hx
  ihave Ho' := (Entails.of_eq (pts_oRowK (F := F) d L _).symm) $$ Ho
  ihave Hs' := (Entails.of_eq (pts_sI (F := F) d L _).symm) $$ Hs
  ihave Hc' := (Entails.of_eq (pts_sC (F := F) d L _).symm) $$ Hc
  sl_exec (disch := exact View.amount_pos _ _ (show 0 < S1600.numel by decide))
  have hg : View.write (Elt F) (sI).view fs (tile_body.sl.dma0 m d L) Finset.univ = tileWords m d L := View.write_whole_univ _ _ _
  rw [hg]
  sl_for (rowsDone d L (tileWords m d L)) $$ [Hs' Hc']
  case region =>
    intro k _
    unfold rowsDone
    iintro ⟨Hs, %f, %hf, Hc⟩
    iapply (trip d L k _ f hf)
    isplitl [Hs]; · iexact Hs
    iexact Hc
  · unfold rowsDone
    isplitl [Hs']; · iexact Hs'
    iexists _; isplitr
    swap; · iexact Hc'
    ipureintro; intro j hj; exact absurd hj (Nat.not_lt_zero _)
  iintro %_ HI
  unfold rowsDone
  icases HI with ⟨Hs', %f, %hf, Hc'⟩
  sl_exec (disch := exact View.amount_pos _ _ (show 0 < S1600.numel by decide))
  sl_step
  isplitl [Hx' Ho']
  · isplitl [Hx']; · iapply (Entails.of_eq (pts_xRowK (F := F) d L _)); iexact Hx'
    iapply (Entails.of_eq ((pointsTo_congr (written_mask m d L f fun x => hf x ((x 0).isLt))).trans (pts_oRowK (F := F) d L _)))
    iexact Ho'
  isplitl [Hs' Hc' Hbufs]
  · isplitl [Hs']; · iexists _; iexact Hs'
    isplitl [Hc']; · iexists _; iexact Hc'
    iexact Hbufs
  isplitl [HsemA HsemB Hsems]
  · isplitl [HsemA]; · iexact HsemA
    isplitl [HsemB]; · iexact HsemB
    iexact Hsems
  iexists _; isplitr
  swap; · iexact HO
  -- every recorded wait is at index `none` or at the one call's
  ipureintro; intro p _
  rcases p.2 with _ | q
  · exact .inr (.inl rfl)
  · exact .inr (.inr (congrArg some (Subsingleton.elim q 0)))

end Tile

/-! ## The obligation -/

/-- The grid place of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_mask (coordsV c s)
          xV (Memref.isWhole_whole _) oV (Memref.isWhole_whole _) sI (Memref.isWhole_whole _) sC (Memref.isWhole_whole _)
          cc0_scoped0 cc0_scoped1) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Cert.Proof
-- ==== Proof.Call.lean ====
/- The TensorCore's call: its body run once, what each grid point stages and leaves, and the two partial sums
   every block of the result array ends with. -/
module

public import proofs.«01_k».proof.Proof.Tile
public import Idealize.ShloMosaic.Lib.LaneScatter.Own
public import Idealize.ShloMosaic.Lib.VecWindow
public import Idealize.ShloMosaic.Lib.WholeRead
public import Idealize.ShloMosaic.Lib.Pipeline.Value
public import Idealize.ShloMosaic.Lib.Pipeline.FrameTail

@[expose] public section

noncomputable section

namespace Cert.Proof

open Cert.KernelIdeal Cert.KernelIdeal.Gen

open Idealize.ShloMosaic Idealize.ShloMosaic.TcCoe
open Idealize.ShloMosaic.SparseCore.Cfg (HIx)
open Idealize.ShloMosaic.Pipeline (Dat BodyObligation ucRefs afterRegion)
open Idealize.ShloMosaic.LaneScatter (raw owns_raw raw_owns)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body -/

/-- The body on any four whole buffers: from the scores, the targets and the mask of eight rows, it leaves the
    result's buffer at the two partial sums of those rows. -/
theorem body_run [∀ e, Nonempty (Elt F e)] (c : Dev nD) (i : grid1.Coords)
    (a1 : Memref sig .tc .vmem S8x50x1000 .f32) (h1 : a1.IsWhole) (a2 : Memref sig .tc .vmem S8x50 .i32) (h2 : a2.IsWhole)
    (a3 : Memref sig .tc .vmem S8x50 .f32) (h3 : a3.IsWhole) (a4 : Memref sig .tc .vmem S1x1x128 .f32) (h4 : a4.IsWhole)
    (x : Vec F S8x50x1000 .f32) (t : Vec F S8x50 .i32) (k : Vec F S8x50 .f32) (o : Vec F S1x1x128 .f32) (Q : PUnit → sProp 𝕄) :
    iprop(owns (c : Thread nD τ) a1 fullShare x ∗ owns (c : Thread nD τ) a2 fullShare t ∗ owns (c : Thread nD τ) a3 fullShare k
        ∗ owns (c : Thread nD τ) a4 fullShare o
        ∗ (iprop(owns (c : Thread nD τ) a1 fullShare x ∗ owns (c : Thread nD τ) a2 fullShare t ∗ owns (c : Thread nD τ) a3 fullShare k
            ∗ owns (c : Thread nD τ) a4 fullShare (k1_pay1 t k x)) -∗ Q ⟨⟩))
      ⊢ wp frame (wpE (defs₀ (F := F)) 𝒱₀ (c : Thread nD τ) none) Set.univ (cc1_tc_body i a1 h1 a2 h2 a3 h3 a4 h4) Q := by
  rw [cc1_tc_body_eq_skeleton]
  unfold cc1_tc_body_skel
  iintro ⟨H1, H2, H3, H4, Hk⟩
  ihave G1 := (owns_raw (c : Thread nD τ) a1 h1 x) $$ H1
  ihave G2 := (owns_raw (c : Thread nD τ) a2 h2 t) $$ H2
  ihave G3 := (owns_raw (c : Thread nD τ) a3 h3 k) $$ H3
  ihave G4 := (owns_raw (c : Thread nD τ) a4 h4 o) $$ H4
  unfold raw
  sl_exec
  sl_step
  iapply Hk
  isplitl [G1]
  · iapply (raw_owns (c : Thread nD τ) a1 (h1.read_unread x)); iexact G1
  isplitl [G2]
  · iapply (raw_owns (c : Thread nD τ) a2 (h2.read_unread t)); iexact G2
  isplitl [G3]
  · iapply (raw_owns (c : Thread nD τ) a3 (h3.read_unread k)); iexact G3
  unfold owns
  iexists _; isplitr; swap; · iexact G4
  ipureintro
  refine (View.read_writes_full a4.view _ _ _ _).trans ?_
  rw [View.readAt_full, View.readAt_full, View.readAt_full, h1.read_unread, h2.read_unread, h3.read_unread]

/-! ## The proof data, at an entry valuation -/

section Region

variable (V : Dev nD → Valuation τ sig (Elt F)) (L : ℕ)

/-- The block of window `w`'s array at point `t`, as the fetch stages it. -/
def stg (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The pairs a wait may have recorded before the region: those at most at level `L`. -/
def below (c : Dev nD) : Set (SemLoc sig × HIx 1) := {p | (K (F := F)).lev (SparseCore.T c, p.1) p.2 ≤ L}

/-- The region's proof data: its arrays at the entry valuation; after the body each input's buffer as fetched and the
    result's at the two partial sums of the point's eight rows; nothing owed. -/
def dat (c : Dev nD) : Dat τ (Elt F) (HIx 1) ℕ UU ℕ cfg1 c where
  A w := V c (Proc.devRef .tc (Pipeline.arrRef spec1 w))
  after w t := match w with
    | ⟨0, _⟩ => stg V c 0 t
    | ⟨1, _⟩ => stg V c 1 t
    | ⟨2, _⟩ => stg V c 2 t
    | ⟨3, _⟩ => k1_pay1 (stg V c 1 t) (stg V c 2 t) (stg V c 0 t)
  Φ _ := Pipeline.scopedRest (Ix := HIx 1) (Name := ℕ) (U := UU) (Lvl := ℕ) (Val := Elt F) spec1 c
  q _ := fullShare
  owed _ := 0
  recorded _ := below (F := F) L c

def dats (_ : Fin 1) (c : Dev nD) : Dat τ (Elt F) (HIx 1) ℕ UU ℕ cfg1 c := dat V L c

theorem before_0 (c : Dev nD) (t : Fin cfg1.N) (d : (cfg1.win 0).block.Idx → Elt F (cfg1.win 0).elt) : (dat V L c).before 0 t d = stg V c 0 t := by
  unfold Dat.before; rw [if_pos (fetch1_0 t)]; rfl
theorem before_1 (c : Dev nD) (t : Fin cfg1.N) (d : (cfg1.win 1).block.Idx → Elt F (cfg1.win 1).elt) : (dat V L c).before 1 t d = stg V c 1 t := by
  unfold Dat.before; rw [if_pos (fetch1_1 t)]; rfl
theorem before_2 (c : Dev nD) (t : Fin cfg1.N) (d : (cfg1.win 2).block.Idx → Elt F (cfg1.win 2).elt) : (dat V L c).before 2 t d = stg V c 2 t := by
  unfold Dat.before; rw [if_pos (fetch1_2 t)]; rfl

/-- The body at every point: the three blocks as fetched, the result's buffer at anything; it leaves what the proof
    data says. -/
theorem body_obligation [∀ e, Nonempty (Elt F e)] (c : Dev nD) :
    BodyObligation (dat V L c) (defs₀ (F := F)) 𝒱₀ (none : HIx 1) Set.univ := fun t => by
  rw [bigSep_W1, bigSep_W1]
  rw [show (dat V L c).Φ t.castSucc = (dat V L c).Φ t.succ from rfl,
    show (dat V L c).owesAt (none : HIx 1) t.castSucc = (dat V L c).owesAt none t.succ from rfl]
  iintro ⟨HΦ, Howes, ⟨%d0, H0⟩, ⟨%d1, H1⟩, ⟨%d2, H2⟩, ⟨%d3, H3⟩⟩
  rw [before_0, before_1, before_2]
  iapply (body_run c (grid1.coords t) (win1_0.stage (cfg1.slots t 0)) (hstage1_0 ((cfg1.slots t 0).cast nbuf1_0)) (win1_1.stage (cfg1.slots t 1))
    (hstage1_1 ((cfg1.slots t 1).cast nbuf1_1)) (win1_2.stage (cfg1.slots t 2)) (hstage1_2 ((cfg1.slots t 2).cast nbuf1_2)) (win1_3.stage (cfg1.slots t 3))
    (hstage1_3 ((cfg1.slots t 3).cast nbuf1_3)) (stg V c 0 t) (stg V c 1 t) (stg V c 2 t) ((dat V L c).before 3 t d3) _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The region over the thread state -/

abbrev adm : (p : Fin 1) → (pcfgs (F := F) p).Adm := fun p => (cfgs p).toPCfg_adm

/-- Every unscoped buffer of the device after the region. -/
def atExit (c : Dev nD) : Valuation τ sig (Elt F) := afterRegion (dat V L c) (V c)

/-- The core owes nothing, its recorded waits at most at level `L`. -/
def idle (c : Dev nD) : sProp 𝕄 :=
  iprop(∃ W, ⌜(K (F := F)).WBelow (SparseCore.T c) W L⌝ ∗ owes (c : Thread nD τ) (0 : CellTallies nD τ sig (HIx 1)) W)

set_option backward.isDefEq.respectTransparency.types false in
/-- THE REGION: entered from every unscoped buffer at `V c`, left with them at `atExit`. -/
def reg [∀ e, Nonempty (Elt F e)] : Pipeline.RegionSeg (pcfgs (F := F)) adm (dats V L) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V L c).loose
  hwaits := Pipeline.hwaits_of_owed_zero _ _ _ _ _ _ 0 fun _ _ => rfl
  pre c := iprop(StableHlo.held (c : Thread nD τ) (ucRefs τ sig) (V c) ∗ idle L c)
  post c := iprop(StableHlo.held (c : Thread nD τ) (ucRefs τ sig) (atExit V L c) ∗ idle L c)
  X _ := BI.emp
  Y _ := BI.emp
  Z c := Pipeline.unscopedRest (Ix := HIx 1) (Name := ℕ) (U := UU) (Lvl := ℕ) spec1 c (fun b => V c (Proc.devRef .tc b))
  hentry c := by
    rw [Pipeline.ownSems0_none,
      show StableHlo.held (c : Thread nD τ) (ucRefs τ sig) (V c) = unscopedBufs c (fun b => V c (Proc.devRef .tc b))
        from (Pipeline.unscopedBufs_held (Ix := HIx 1) (Name := ℕ) (U := UU) (Lvl := ℕ) c (V c)).symm]
    have hsplit := Pipeline.arrays_of_unscopedBufs (p := 0) (pcfgs (F := F)) adm (dats V L) launch1.win launch1.arr_whole c
      ((dats V L 0 c).share_full fun _ => rfl) (fun b => V c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold idle Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V L 0 c).Φ 0 = Pipeline.scopedRest (Ix := HIx 1) (Name := ℕ) (U := UU) (Lvl := ℕ) (Val := Elt F) spec1 c from rfl]
    iintro ⟨-, -, Hr⟩
    iexact Hr
  hout c := by
    rw [Pipeline.ownSems0_none, show (dats V L 0 c).Φ (Fin.last cfg1.N) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (dats V L) ((dats V L 0 c).share_full fun _ => rfl)
      (fun b => V c (Proc.devRef .tc b)) (fun b => atExit V L c (Proc.devRef .tc b)) ((dats V L 0 c).arrAt · cfg1.N)
      (fun w => (Pipeline.afterRegion_arr (dat V L c) (V c) launch1.win.arr_inj w).symm)
      (fun b hb => Pipeline.afterRegion_of_not_arr (dat V L c) (V c)
        fun w h => hb (h ▸ Finset.mem_image.mpr ⟨w, Finset.mem_univ _, rfl⟩))
    rw [show StableHlo.held (c : Thread nD τ) (ucRefs τ sig) (atExit V L c) = unscopedBufs c (fun b => atExit V L c (Proc.devRef .tc b))
        from (Pipeline.unscopedBufs_held (Ix := HIx 1) (Name := ℕ) (U := UU) (Lvl := ℕ) c (atExit V L c)).symm]
    iintro ⟨Ha, HO, -, Hrest⟩
    imodintro
    isplitl [Ha Hrest]
    · iapply hjoin; isplitl [Ha] <;> iassumption
    unfold idle Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Region

end Cert.Proof

end
-- ==== Proof.Run.lean ====
/- The kernel program's run: the launch of the SparseCore call, the straight line of host operations around it and
   the TensorCore call, from the launch memory to the loss. -/
module

public import proofs.«01_k».proof.Proof.Call
public import Idealize.ShloMosaic.Lib.Pipeline.RegionArraysS
public import Idealize.ShloMosaic.Lib.Pipeline.Sound

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat ucRefs afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type}

local notation "𝕄" => MT nD τ sig (HIx 1) (Elt F) ℕ UU ℕ

variable (m : (ℓ : Loc nD τ sig) → Buf (Elt F) ℓ) (ρ : Dev nD → PrngReg)

/-! ## The flat arrays split into the thirty-two items' parts -/

theorem partSet_eq (w : Fin 32) : partSet w = (part w).set := by
  unfold partSet; rw [show ∀ r : Rect S51200, ((Memref.whole main_v0_scv).view.slice r).set = r.set from fun r => by
    show ((View.whole (main_v0_scv : Ref sig .scVector)).slice r).set = _
    rw [View.set_slice]; exact Finset.map_refl]
theorem parts_disjoint : ∀ i ∈ (Finset.univ : Finset (Fin 32)), ∀ j ∈ (Finset.univ : Finset (Fin 32)), i ≠ j → Disjoint (partSet i) (partSet j) :=
  fun i _ j _ h => by rw [partSet_eq, partSet_eq]; exact Rect.part_disjoint hdiv h
theorem parts_cover : (Finset.univ : Finset (Fin 32)).biUnion partSet = Finset.univ :=
  (Finset.biUnion_congr rfl fun i _ => partSet_eq i).trans (Rect.biUnion_part hdiv)

/-- The items are the pairs of a core and a tile. -/
def itemEquiv : Fin 2 × Fin 16 ≃ Fin 32 where
  toFun p := item p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

/-- A family over the items, core by core and tile by tile. -/
theorem bigSep_items (Φ : Fin 32 → sProp 𝕄) :
    (bigSep Finset.univ fun c : Fin ((K (F := F)).nCore 0) => bigSep Finset.univ fun i : Fin 16 => Φ (item (Fin.cast nCore_zero c) i)) = bigSep Finset.univ Φ := by
  rw [bigSep_univ_equiv itemEquiv, bigSep_univ_prod (fun p : Fin 2 × Fin 16 => Φ (itemEquiv p))]
  exact bigSep_congr fun _ _ => bigSep_congr fun _ _ => congrArg Φ (Fin.ext rfl)

variable [FloatOps F]

theorem xPts_parts (d : Dev nD) (f : Buf (Elt F) (xLoc d)) :
    (xPts d f : sProp 𝕄) = bigSep Finset.univ fun w : Fin 32 => xPart d w f := by
  unfold xPts xPart
  rw [← pointsTo_biUnion Finset.univ (ℓ := xLoc d) partSet parts_disjoint, parts_cover]
theorem oPts_parts (d : Dev nD) (f : Buf (Elt F) (oLoc d)) :
    (oPts d f : sProp 𝕄) = bigSep Finset.univ fun w : Fin 32 => oPart d w f := by
  unfold oPts oPart
  rw [← pointsTo_biUnion Finset.univ (ℓ := oLoc d) partSet parts_disjoint, parts_cover]

/-- What the call is handed is the two flat arrays: the targets, and the mask at its launch contents. -/
theorem st0_eq (d : Dev nD) :
    (bigSep Finset.univ fun c : Fin ((K (F := F)).nCore 0) => (P m).st 0 d c) = iprop(xPts d (tgt m d) ∗ oPts d (m (oLoc d))) := by
  rw [xPts_parts, oPts_parts, ← bigSep_sep']
  exact bigSep_items (F := F) fun w => before m d w
/-- What it hands back is the two again, the mask computed. -/
theorem dn0_eq (d : Dev nD) :
    (bigSep Finset.univ fun c : Fin ((K (F := F)).nCore 0) => (P m).dn 0 d c) = iprop(xPts d (tgt m d) ∗ oPts d (mask m d)) := by
  rw [xPts_parts, oPts_parts, ← bigSep_sep']
  exact bigSep_items (F := F) fun w => after m d w

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's hand is its sixteen tiles'. -/
theorem vecSplit : (K (F := F)).VecSplit' (P m) 0 := by
  intro d c
  show iprop(bigSep Finset.univ fun i : Fin 16 => before m d (item (Fin.cast nCore_zero c) i)) ⊢ |={Set.univ}=> iprop(
      (bigSep Finset.univ fun i : Fin ((K (F := F)).nSub 0) => before m d (item (Fin.cast nCore_zero c) (Fin.cast nSub_zero i)))
      ∗ ((bigSep Finset.univ fun i : Fin ((K (F := F)).nSub 0) => after m d (item (Fin.cast nCore_zero c) (Fin.cast nSub_zero i)))
          -∗ bigSep Finset.univ fun i : Fin 16 => after m d (item (Fin.cast nCore_zero c) i)))
  rw [bigSep_tasks (F := F) (fun i => before m d (item (Fin.cast nCore_zero c) i)),
    bigSep_tasks (F := F) (fun i => after m d (item (Fin.cast nCore_zero c) i))]
  iintro H; imodintro
  isplitl [H]; · iexact H
  iintro H; iexact H

/-! ## The launch element: the handshakes' rounds and the pipeline's -/

def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

omit [FloatOps F] in
instance EP_landsIn : (EP : Emb UP 𝕄).LandsIn (upEmb : UEmb _ 𝕄) := by unfold EP; infer_instance

/-- The pipelines at the admissible parameters. -/
abbrev pins : Fin 1 → Pipeline.Cfg sig Λ₀ := Pipeline.pin (pcfgs (F := F)) adm

def u₀ : UU :=
  (initOf (K (F := F)).hsCells (K (F := F)).hsToks,
    (initOf (Pipeline.cells (nD := nD) (τ := τ) (pins (F := F)) cellOf_inj) (Pipeline.launchToks (nD := nD) (τ := τ) (pins (F := F)) cellOf_inj), 1))

/-- What the TensorCore of device `d` enters the pipeline with. -/
abbrev G (d : Dev nD) : sProp 𝕄 :=
  iprop(Pipeline.cellsGhost (pins (F := F)) EP 0 d ∗ Pipeline.toksInit (pins (F := F)) EP 0 d)

omit [FloatOps F] in
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_split (initOf (K (F := F)).hsCells (K (F := F)).hsToks) _) $$ Hu
  icases H with ⟨HH, HP⟩
  imod (Pipeline.fund_ghost (pins (F := F)) EP cellOf_inj) $$ HP with ⟨Hg, Ht⟩
  imodintro
  isplitl [HH]; · iexact HH
  isplitl
  · rw [bigSep_sep']
    isplitl [Hg]
    · iapply (Entails.of_eq (bigSep_congr fun (c : Dev nD) _ => bigSep_univ_of_subsingleton (Φ := fun p => Pipeline.cellsGhost (pins (F := F)) EP p c) (0 : Fin 1))); iexact Hg
    · iapply (Entails.of_eq (bigSep_congr fun (c : Dev nD) _ => bigSep_univ_of_subsingleton (Φ := fun p => Pipeline.toksInit (pins (F := F)) EP p c) (0 : Fin 1))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

/-! ## The buffers along @main -/

/-- The operation before the SparseCore call: the targets laid flat. -/
abbrev opTgt : HloOp τ sig (Elt F) := StableHlo.reshape main_arg1 main_v0 (rfl : (.i32 : EltTy) = .i32) shapeCasts_S1024x50_S51200
/-- The operation between the two calls: the mask laid out in rows. -/
abbrev opMask : HloOp τ sig (Elt F) := StableHlo.reshape main_v1 main_v2 (rfl : (.f32 : EltTy) = .f32) shapeCasts_S51200_S1024x50
/-- The operations after the two calls: the two columns of the partial sums, each summed, and their quotient. -/
abbrev tailOps : List (HloOp τ sig (Elt F)) :=
  [StableHlo.unary main_v3 main_v4 ((extractStridedSlice S128x1x1 ![0, 0, 0] · slices_S128x1x128_S128x1x1_0_0_0) : (⟨S128x1x128, .f32⟩ : BufTy).Contents (Elt F) → (⟨S128x1x1, .f32⟩ : BufTy).Contents (Elt F)),
   StableHlo.reshape main_v4 main_v5 (rfl : (.f32 : EltTy) = .f32) shapeCasts_S128x1x1_S128,
   StableHlo.nullary main_cst (constant S_ .f32 0x00000000#32),
   StableHlo.binary main_v5 main_cst main_v6 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
   StableHlo.unary main_v3 main_v7 ((extractStridedSlice S128x1x1 ![0, 0, 1] · slices_S128x1x128_S128x1x1_0_0_1) : (⟨S128x1x128, .f32⟩ : BufTy).Contents (Elt F) → (⟨S128x1x1, .f32⟩ : BufTy).Contents (Elt F)),
   StableHlo.reshape main_v7 main_v8 (rfl : (.f32 : EltTy) = .f32) shapeCasts_S128x1x1_S128,
   StableHlo.nullary main_cst_0 (constant S_ .f32 0x00000000#32),
   StableHlo.binary main_v8 main_cst_0 main_v9 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
   StableHlo.binary main_v6 main_v9 main_v10 (Host.divf : (⟨S_, .f32⟩ : BufTy).Contents (Elt F) → (⟨S_, .f32⟩ : BufTy).Contents (Elt F) → (⟨S_, .f32⟩ : BufTy).Contents (Elt F))]

/-- A TensorCore buffer, as one of its device's. -/
abbrev at_ (b : Ref sig .tc) : DevRef τ sig := Proc.devRef .tc b

/-- Every unscoped buffer of device `d` at the launch, after the targets are laid flat, after the SparseCore call,
    after the mask is laid out in rows, after the TensorCore call, and at the end. -/
def V0 (d : Dev nD) : Valuation τ sig (Elt F) := StableHlo.launchContents m d
def V1 (d : Dev nD) : Valuation τ sig (Elt F) := (opTgt (F := F)).result (V0 m d)
def V2 (d : Dev nD) : Valuation τ sig (Elt F) := Function.update (V1 m d) (at_ main_v1) (mask m d)
def V3 (d : Dev nD) : Valuation τ sig (Elt F) := (opMask (F := F)).result (V2 m d)
/-- The level under which every wait of the SparseCore call's hand-over lies. -/
def lvl : ℕ := 8
def V4 (d : Dev nD) : Valuation τ sig (Elt F) := atExit (V3 m) lvl d
def V5 (d : Dev nD) : Valuation τ sig (Elt F) := StableHlo.after (tailOps (F := F)) (V4 m d)

theorem main_eq (d : Dev nD) :
    main (F := F) d = (StableHlo.seq [opTgt] >>= fun _ => (K (F := F)).run d 0 >>= fun _ => StableHlo.seq [opMask] >>= fun _ =>
      SparseCore.liftProg (.op (.customCall (Pipeline.entry 0) ()) fun _ => .ret PUnit.unit) >>= fun _ => StableHlo.seq tailOps) := rfl

theorem tgt_sub : ∀ op ∈ [opTgt (F := F)], op.bufs ⊆ ucRefs τ sig := fun op h => by
  rw [List.mem_singleton.mp h]; exact Pipeline.sub_ucRefs _ (StableHlo.reshape_bufs_sub _ _ _ _ _ _)
theorem tgt_fresh : ∀ op ∈ [opTgt (F := F)], op.fresh = ∅ := fun op h => by rw [List.mem_singleton.mp h]; rfl
theorem mask_sub : ∀ op ∈ [opMask (F := F)], op.bufs ⊆ ucRefs τ sig := fun op h => by
  rw [List.mem_singleton.mp h]; exact Pipeline.sub_ucRefs _ (StableHlo.reshape_bufs_sub _ _ _ _ _ _)
theorem mask_fresh : ∀ op ∈ [opMask (F := F)], op.fresh = ∅ := fun op h => by rw [List.mem_singleton.mp h]; rfl
theorem tail_sub : ∀ op ∈ tailOps (F := F), op.bufs ⊆ ucRefs τ sig := fun op h => by
  refine Pipeline.sub_ucRefs op ?_
  fin_cases h <;> simp
theorem tail_fresh : ∀ op ∈ tailOps (F := F), op.fresh = ∅ := fun op h => by fin_cases h <;> rfl

omit [FloatOps F] in
theorem mem_uc {b : Ref sig .tc} (hb : b.isScoped = false) : at_ b ∈ ucRefs τ sig := Pipeline.devRef_mem_ucRefs hb

theorem V1_tgt (d : Dev nD) : V1 m d (at_ main_v0) = tgt m d := by
  unfold V1 tgt; rw [StableHlo.reshape_result]; rfl
theorem V1_mask (d : Dev nD) : V1 m d (at_ main_v1) = m (oLoc d) := by
  unfold V1; rw [StableHlo.reshape_result_ne (h := by decide)]; rfl

/-- The two flat arrays pulled out of the unscoped buffers, and put back at a new mask. -/
theorem held_flat (d : Dev nD) (W : Valuation τ sig (Elt F)) :
    (held (T d) (ucRefs τ sig) W : sProp 𝕄)
      = iprop((xPts d (W (at_ main_v0)) ∗ oPts d (W (at_ main_v1))) ∗ held (T d) (ucRefs τ sig \ {at_ main_v0, at_ main_v1}) W) := by
  rw [StableHlo.held_sub_split (T d) (T := {at_ main_v0, at_ main_v1}) (Finset.insert_subset_iff.mpr ⟨mem_uc rfl, Finset.singleton_subset_iff.mpr (mem_uc rfl)⟩) W]
  congr 1
  unfold held
  rw [bigSep_insert (by decide), bigSep_singleton]
  rfl

theorem held_V2 (d : Dev nD) :
    (iprop((xPts d (tgt m d) ∗ oPts d (mask m d)) ∗ held (T d) (ucRefs τ sig \ {at_ main_v0, at_ main_v1}) (V1 m d)) : sProp 𝕄)
      = held (T d) (ucRefs τ sig) (V2 m d) := by
  rw [held_flat d (V2 m d)]
  rw [show V2 m d (at_ main_v0) = tgt m d from (Function.update_of_ne (by decide) _ _).trans (V1_tgt m d),
    show V2 m d (at_ main_v1) = mask m d from Function.update_self _ _ _]
  congr 1

theorem unscoped_eq (d : Dev nD) : (unscopedBufs d (fun b => m ((SparseCore.T d).loc b)) : sProp 𝕄) = held (T d) (ucRefs τ sig) (V0 m d) := by
  rw [← Pipeline.unscopedBufs_held (Ix := HIx 1) (Name := ℕ) (U := UU) (Lvl := ℕ) d (V0 m d)]
  exact congrArg (unscopedBufs d) (funext fun b => rfl)

abbrev FIN (d : Dev nD) : sProp 𝕄 := held (T d) (ucRefs τ sig) (V5 m d)

section Main
variable [∀ e, Nonempty (Elt F e)]

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, unscoped_eq]
  iintro ⟨#Hctx, Hst, ⟨Hb, Hbufs, Hts, -⟩, Hg, Ht⟩
  iapply (StableHlo.wp_seq 𝒱 none Set.univ d (ucRefs τ sig) _ [opTgt (F := F)] tgt_sub tgt_fresh (V0 m d)) $$ [Hb Hbufs]
  · isplitl [Hb]; · iexact Hb
    iexact Hbufs
  rw [show StableHlo.after [opTgt (F := F)] (V0 m d) = V1 m d from rfl, held_flat d (V1 m d), V1_tgt, V1_mask]
  iintro ⟨Hb, ⟨Hx, Ho⟩, Hrest⟩
  rw [wp_bind]
  iapply ((K (F := F)).wp_run (D (F := F)) 𝒱 (EH := EH) (P := P m) κ d 0)
  isplitr; · iexact Hctx
  isplitl [Hst]; · iexact Hst
  isplitl [Hx Ho]
  · rw [st0_eq]
    isplitl [Hx]; · iexact Hx
    iexact Ho
  rw [dn0_eq]
  iintro ⟨Hst, Hdn⟩
  ihave Hbufs := (Entails.of_eq (held_V2 m d)) $$ [Hdn Hrest]
  · isplitl [Hdn]; · iexact Hdn
    iexact Hrest
  iapply (StableHlo.wp_seq 𝒱 none Set.univ d (ucRefs τ sig) _ [opMask (F := F)] mask_sub mask_fresh (V2 m d)) $$ [Hb Hbufs]
  · isplitl [Hb]; · iexact Hb
    iexact Hbufs
  rw [show StableHlo.after [opMask (F := F)] (V2 m d) = V3 m d from rfl]
  iintro ⟨Hb, Hbufs⟩
  rw [wp_bind]
  ihave Hlev := ((K (F := F)).ctx_levAts κ) $$ Hctx
  unfold SparseCore.Cfg.tcSt
  icases Hst with ⟨⟨%W, %hW, HO⟩, Hst⟩
  iapply ((K (F := F)).wp_liftProg (D (F := F)) 𝒱 (T d) Set.univ none _ _)
  iapply (Pipeline.RegionSeg.wp (pcfgs (F := F)) adm (dats (V3 m) lvl) (none : HIx 1) cellOf_inj EP defs₀ 𝒱₀ (K (F := F)).L (K (F := F)).lev
    (reg (V3 m) lvl) d none (fun u h => nomatch h) _ _)
  rw [show (reg (V3 m) lvl).pre d = iprop(held (SparseCore.T d) (ucRefs τ sig) (V3 m d) ∗ idle lvl d) from rfl,
    show (reg (V3 m) lvl).post d = iprop(held (SparseCore.T d) (ucRefs τ sig) (V4 m d) ∗ idle lvl d) from rfl]
  unfold idle
  isplitr [Hb Hbufs HO Hlev Hg Ht]
  · iintro ⟨Hb, Hbufs, %W', %hW', HO⟩
    rw [wp_ret]
    imodintro
    iapply (StableHlo.wp_seq 𝒱 none Set.univ d (ucRefs τ sig) (fun u => Pure.pure u) (tailOps (F := F)) tail_sub tail_fresh (V4 m d)) $$ [Hb Hbufs]
    · isplitl [Hb]; · iexact Hb
      iexact Hbufs
    iintro ⟨Hb, Hbufs⟩
    rw [wp_pure]
    imodintro
    isplitl [HO Hst]
    · isplitl [HO]
      · iexists W'
        isplitr; · ipureintro; exact hW'
        rw [(K (F := F)).Otc_end d le_rfl]; iexact HO
      iexact Hst
    isplitl [Hbufs]; · iexact Hbufs
    isplitl [Hb]; · iexact Hb
    iexact Hts
  isplitl [Hb]; · iexact Hb
  isplitl [Hbufs HO]
  · isplitl [Hbufs]; · iexact Hbufs
    iexists W
    isplitr; · ipureintro; exact hW
    rw [show (K (F := F)).Otc d ((0 : Fin 1).val + 1) = 0 from (K (F := F)).Otc_end d le_rfl]; iexact HO
  isplitl [Hlev]; · iexact Hlev
  isplitl [Hg]; · iexact Hg
  iexact Ht

/-! ## What the run leaves -/

/-- An unscoped buffer held is what the memory has. -/
theorem held_agree (d : Dev nD) (W : Valuation τ sig (Elt F)) {b : DevRef τ sig} (hb : b ∈ ucRefs τ sig) (s' : Phys nD τ sig (Elt F)) :
    iprop(held (SparseCore.T d) (ucRefs τ sig) W ∗ SI s') ⊢ (⌜s'.mem.mem (d, b) = W b⌝ : sProp 𝕄) := by
  rw [StableHlo.held_sub_split (SparseCore.T d) (T := {b}) (Finset.singleton_subset_iff.mpr hb) W]
  unfold held
  rw [bigSep_singleton]
  iintro ⟨⟨Hx, -⟩, HSI⟩
  ihave H := (SI_pointsTo_agree (st := s') (ℓ := (d, b)) (I := Finset.univ) (q := fullShare) (f := W b)) $$ [HSI Hx]
  · isplitl [HSI] <;> iassumption
  icases H with %hx
  ipureintro; exact funext fun i => hx i (Finset.mem_univ i)

/-- Every unscoped buffer of the device at what the run computes. -/
def fq (d : Dev nD) (s' : Phys nD τ sig (Elt F)) : Prop := ∀ b ∈ ucRefs τ sig, s'.mem.mem (d, b) = V5 m d b

theorem hfin (d : Dev nD) (s' : Phys nD τ sig (Elt F)) : iprop(FIN m d ∗ SI s') ⊢ (⌜fq m d s'⌝ : sProp 𝕄) :=
  (Laws.forall_intro fun b => (Laws.forall_intro fun hb => held_agree d (V5 m d) hb s').trans Laws.pure_forall.2).trans Laws.pure_forall.2

/-- The end of the run: every unscoped buffer of every device at what the run computes, every semaphore zero. -/
def QC : PUnit × MemSt nD τ sig (Elt F) → Prop := fun r =>
  (∀ d : Dev nD, ∀ b ∈ ucRefs τ sig, r.2.mem (d, b) = V5 m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Main

/-! ## The arguments are as at the launch -/

theorem V5_of_not_written (d : Dev nD) (b : Ref sig .tc)
    (h : b ≠ main_v0 ∧ b ≠ main_v1 ∧ b ≠ main_v2 ∧ b ≠ main_v3 ∧ b ≠ main_v4 ∧ b ≠ main_v5 ∧ b ≠ main_cst ∧ b ≠ main_v6 ∧ b ≠ main_v7 ∧ b ≠ main_v8
      ∧ b ≠ main_cst_0 ∧ b ≠ main_v9 ∧ b ≠ main_v10) (h4 : V4 m d (at_ b) = V3 m d (at_ b)) : V5 m d (at_ b) = m (d, at_ b) := by
  obtain ⟨h0, h1, h2, -, n4, n5, nc, n6, n7, n8, nc0, n9, n10⟩ := h
  unfold V5
  simp only [StableHlo.after_cons, StableHlo.after_nil]
  rw [StableHlo.binary_result_ne (h := n10), StableHlo.binary_result_ne (h := n9), StableHlo.nullary_result_ne (h := nc0),
    StableHlo.reshape_result_ne (h := n8), StableHlo.unary_result_ne (h := n7), StableHlo.binary_result_ne (h := n6),
    StableHlo.nullary_result_ne (h := nc), StableHlo.reshape_result_ne (h := n5), StableHlo.unary_result_ne (h := n4), h4]
  unfold V3 V2 V1
  rw [StableHlo.reshape_result_ne (h := h2), Function.update_of_ne (StableHlo.devRef_ne_of_ne h1), StableHlo.reshape_result_ne (h := h0)]
  rfl

theorem V4_arg0 (d : Dev nD) : V4 m d (at_ main_arg0) = V3 m d (at_ main_arg0) := by
  unfold V4 atExit
  exact (Pipeline.afterRegion_arr (dat (V3 m) lvl d) (V3 m d) launch1.win.arr_inj 0).trans (Dat.arrAt_in _ _ rfl _)
theorem V4_arg1 (d : Dev nD) : V4 m d (at_ main_arg1) = V3 m d (at_ main_arg1) := by
  unfold V4 atExit
  exact (Pipeline.afterRegion_arr (dat (V3 m) lvl d) (V3 m d) launch1.win.arr_inj 1).trans (Dat.arrAt_in _ _ rfl _)

theorem V5_arg0 (d : Dev nD) : V5 m d (at_ main_arg0) = m (d, at_ main_arg0) := V5_of_not_written m d _ (by decide) (V4_arg0 m d)
theorem V5_arg1 (d : Dev nD) : V5 m d (at_ main_arg1) = m (d, at_ main_arg1) := V5_of_not_written m d _ (by decide) (V4_arg1 m d)

end Cert.Proof
-- ==== Proof.Frames.lean ====
/- The frame claims: each program ends with its arguments as they were and every semaphore at zero. -/
module

public import proofs.«01_k».proof.Proof.Run
public import proofs.«01_k».proof.Proof.Gen.ReferenceIdeal
public import proofs.«01_k».proof.Proof.Gen.ReferenceIdeal.Run
public import proofs.«01_k».proof.Proof.Gen.Kernel

@[expose] public section

noncomputable section

namespace Cert.Proof

open Idealize.ShloMosaic Idealize.SL.Sem

/-- The kernel program, over any float values: the arguments as at the launch, every semaphore at zero. -/
theorem run_frame {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (at_ Cert.KernelIdeal.main_arg0) (mem_uc rfl)).trans (V5_arg0 m c),
      (h.1 c (at_ Cert.KernelIdeal.main_arg1) (mem_uc rfl)).trans (V5_arg1 m c)⟩, h.2⟩)
    (run_main m ρ)

/-- The two prints of the kernel have one body table: label by label, the same bodies. -/
theorem defs₀_eq : Cert.Kernel.defs₀ (F := Bits) = Cert.KernelIdeal.defs₀ (F := Bits) := by
  funext pr ℓ a
  match pr, ℓ, a with
  | .scVector c s, (0 : Fin 2), _ => rfl
  | .scVector c s, (1 : Fin 2), _ => rfl
  | .tc, (0 : Fin 2), _ => rfl
  | .tc, (1 : Fin 2), (t, s) => rfl
  | .scScalar c, (0 : Fin 2), _ => rfl
  | .scScalar c, (1 : Fin 2), _ => rfl

theorem defs_eq : Cert.Kernel.defs (F := Bits) = Cert.KernelIdeal.defs (F := Bits) :=
  congrArg (fun d => Cert.KernelIdeal.sc.defs (Pipeline.defs Cert.KernelIdeal.pcfgs d)) defs₀_eq

/-- The kernel's frame over machine floats: the run above, the two prints having the same text. -/
theorem frame_kernel : Cert.quiescent_Kernel := fun m ρ _ => by
  have h := run_frame (F := Bits) m ρ
  rw [← defs_eq] at h
  exact h

/-- The kernel's frame over extended reals. -/
theorem frame_kernelIdeal : Cert.quiescent_KernelIdeal := fun m ρ _ => run_frame (F := Ideal) m ρ

/-- The reference's frame over extended reals: its run's, and it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof
-- ==== Proof.CallValue.lean ====
/- What the TensorCore call leaves in its result, and so what the kernel program leaves in the loss: for each block of
   eight rows the body's two partial sums, and the quotient of their totals over the blocks. -/
module

public import proofs.«01_k».proof.Proof.Run
public import Idealize.ShloMosaic.Lib.Pipeline.ValueKit.Geometry

@[expose] public section

noncomputable section

namespace Cert.Proof

open Cert.KernelIdeal Cert.KernelIdeal.Gen

open Idealize.ShloMosaic Idealize.ShloMosaic.TcCoe
open Idealize.SL Idealize.SL.Sem
open Idealize.ShloMosaic.SparseCore.Cfg (HIx)
open Idealize.ShloMosaic.Pipeline (Dat)

variable {F : FTy → Type} [FloatOps F]

/-! ## Rows of a block -/

/-- Row `r`, position `p` of a matrix of 1024 rows of fifty. -/
def at2 (r : Fin 1024) (p : Fin 50) : S1024x50.Idx
  | ⟨0, _⟩ => r
  | ⟨1, _⟩ => p

/-- Row `r`, position `p`, entry `v` of the logits. -/
def at3 (r : Fin 1024) (p : Fin 50) (v : Fin 1000) : S1024x50x1000.Idx
  | ⟨0, _⟩ => r
  | ⟨1, _⟩ => p
  | ⟨2, _⟩ => v

/-- The row of the whole that row `r` of block `b` is. -/
def rowOf (b : Fin 128) (r : Fin 8) : Fin 1024 := ⟨b.val * 8 + r.val, by omega⟩

/-- The eight rows of block `b` of a matrix. -/
def rows2 {α : Type} (X : S1024x50.Idx → α) (b : Fin 128) : S8x50.Idx → α := fun j => X (at2 (rowOf b (j 0)) (j 1))

/-- The eight rows of block `b` of the logits. -/
def rows3 {α : Type} (X : S1024x50x1000.Idx → α) (b : Fin 128) : S8x50x1000.Idx → α := fun j => X (at3 (rowOf b (j 0)) (j 1) (j 2))

/-- Lane `l` of a block's result. -/
def outLane (l : Fin 128) : S1x1x128.Idx
  | ⟨0, _⟩ => (0 : Fin 1)
  | ⟨1, _⟩ => (0 : Fin 1)
  | ⟨2, _⟩ => l

/-- The call's whole result over logits `x`, words `t` and mask `k`: block by block what the body leaves. -/
def parts (x : S1024x50x1000.Idx → F .f32) (t : S1024x50.Idx → BitVec 32) (k : S1024x50.Idx → F .f32) : S128x1x128.Idx → F .f32 :=
  fun i => k1_pay1 (rows2 t (i 0)) (rows2 k (i 0)) (rows3 x (i 0)) (outLane (i 2))

/-! ## Where a block lies in its array -/

theorem index_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem index_1 : ∀ t : Fin cfg1.N, win1_1.index t (0 : Fin 2) = t.val ∧ win1_1.index t (1 : Fin 2) = 0 :=
  (by decide +kernel : ∀ t : Fin grid1.N, _)
theorem index_2 : ∀ t : Fin cfg1.N, win1_2.index t (0 : Fin 2) = t.val ∧ win1_2.index t (1 : Fin 2) = 0 :=
  (by decide +kernel : ∀ t : Fin grid1.N, _)
theorem index_3 : ∀ t : Fin cfg1.N, win1_3.index t (0 : Fin 3) = t.val ∧ win1_3.index t (1 : Fin 3) = 0 ∧ win1_3.index t (2 : Fin 3) = 0 :=
  (by decide +kernel : ∀ t : Fin grid1.N, _)

/-- The block of eight rows that grid point `t` works on. -/
def blockOf (t : Fin cfg1.N) : Fin 128 := ⟨t.val, N_1 ▸ t.isLt⟩

theorem emb_0 (t : Fin cfg1.N) (j : S8x50x1000.Idx) : ((cfg1.win 0).blk t).view.emb j = at3 (rowOf (blockOf t) (j 0)) (j 1) (j 2) := by
  obtain ⟨h0, h1, h2⟩ := index_0 t
  funext a
  apply Fin.ext
  match a with
  | ⟨0, _⟩ => show win1_0.index t (0 : Fin 3) * 8 + 1 * (j 0).val = t.val * 8 + (j 0).val; omega
  | ⟨1, _⟩ => show win1_0.index t (1 : Fin 3) * 50 + 1 * (j 1).val = (j 1).val; omega
  | ⟨2, _⟩ => show win1_0.index t (2 : Fin 3) * 1000 + 1 * (j 2).val = (j 2).val; omega

theorem emb_1 (t : Fin cfg1.N) (j : S8x50.Idx) : ((cfg1.win 1).blk t).view.emb j = at2 (rowOf (blockOf t) (j 0)) (j 1) := by
  obtain ⟨h0, h1⟩ := index_1 t
  funext a
  apply Fin.ext
  match a with
  | ⟨0, _⟩ => show win1_1.index t (0 : Fin 2) * 8 + 1 * (j 0).val = t.val * 8 + (j 0).val; omega
  | ⟨1, _⟩ => show win1_1.index t (1 : Fin 2) * 50 + 1 * (j 1).val = (j 1).val; omega

theorem emb_2 (t : Fin cfg1.N) (j : S8x50.Idx) : ((cfg1.win 2).blk t).view.emb j = at2 (rowOf (blockOf t) (j 0)) (j 1) := by
  obtain ⟨h0, h1⟩ := index_2 t
  funext a
  apply Fin.ext
  match a with
  | ⟨0, _⟩ => show win1_2.index t (0 : Fin 2) * 8 + 1 * (j 0).val = t.val * 8 + (j 0).val; omega
  | ⟨1, _⟩ => show win1_2.index t (1 : Fin 2) * 50 + 1 * (j 1).val = (j 1).val; omega

theorem emb_3 (t : Fin cfg1.N) (y : S1x1x128.Idx) :
    (((cfg1.win 3).blk t).view.emb y : S128x1x128.Idx) 0 = blockOf t ∧ outLane ((((cfg1.win 3).blk t).view.emb y : S128x1x128.Idx) 2) = y := by
  obtain ⟨h0, h1, h2⟩ := index_3 t
  refine ⟨Fin.ext ?_, funext fun a => Fin.ext ?_⟩
  · show win1_3.index t (0 : Fin 3) * 1 + 1 * (y 0).val = t.val
    have : (y 0).val < 1 := (y 0).isLt
    omega
  · match a with
    | ⟨0, _⟩ => show 0 = (y 0).val; have : (y 0).val < 1 := (y 0).isLt; omega
    | ⟨1, _⟩ => show 0 = (y 1).val; have : (y 1).val < 1 := (y 1).isLt; omega
    | ⟨2, _⟩ => show win1_3.index t (2 : Fin 3) * 128 + 1 * (y 2).val = (y 2).val; omega

section Region

variable (V : Dev nD → Valuation τ sig (Elt F)) (L : ℕ)

theorem stg_0 (c : Dev nD) (t : Fin cfg1.N) : stg V c 0 t = rows3 (V c (at_ main_arg0)) (blockOf t) :=
  funext fun j => congrArg (V c (at_ main_arg0)) (emb_0 t j)
theorem stg_1 (c : Dev nD) (t : Fin cfg1.N) : stg V c 1 t = rows2 (V c (at_ main_arg1)) (blockOf t) :=
  funext fun j => congrArg (V c (at_ main_arg1)) (emb_1 t j)
theorem stg_2 (c : Dev nD) (t : Fin cfg1.N) : stg V c 2 t = rows2 (V c (at_ main_v2)) (blockOf t) :=
  funext fun j => congrArg (V c (at_ main_v2)) (emb_2 t j)

/-- After the region its result array holds, block by block, what the body leaves. -/
theorem arr_3 (c : Dev nD) :
    (dat V L c).arrAt 3 cfg1.N = parts (V c (at_ main_arg0)) (V c (at_ main_arg1)) (V c (at_ main_v2)) := by
  refine (dat V L c).arrAt_eq_of_covers 3 _ (by decide +kernel) fun t _ y => ?_
  obtain ⟨h0, h2⟩ := emb_3 t y
  show k1_pay1 (stg V c 1 t) (stg V c 2 t) (stg V c 0 t) y = _
  rw [stg_0, stg_1, stg_2]
  show _ = k1_pay1 (rows2 _ ((((cfg1.win 3).blk t).view.emb y : S128x1x128.Idx) 0)) (rows2 _ ((((cfg1.win 3).blk t).view.emb y : S128x1x128.Idx) 0))
    (rows3 _ ((((cfg1.win 3).blk t).view.emb y : S128x1x128.Idx) 0)) (outLane ((((cfg1.win 3).blk t).view.emb y : S128x1x128.Idx) 2))
  rw [h0, h2]

theorem atExit_3 (c : Dev nD) :
    atExit V L c (at_ main_v3) = parts (V c (at_ main_arg0)) (V c (at_ main_arg1)) (V c (at_ main_v2)) :=
  (Pipeline.afterRegion_arr (dat V L c) (V c) launch1.win.arr_inj 3).trans (arr_3 V L c)

end Region

/-! ## The loss -/

variable (m : (ℓ : Loc nD τ sig) → Buf (Elt F) ℓ)

/-- The mask laid out in rows. -/
def maskRows (d : Dev nD) : S1024x50.Idx → F .f32 := shapeCast S1024x50 (mask m d) shapeCasts_S51200_S1024x50

/-- Entering the TensorCore call the logits and the words are those of the launch, and the mask is the SparseCore's. -/
theorem V3_of_not_written (d : Dev nD) (b : Ref sig .tc) (h : b ≠ main_v0 ∧ b ≠ main_v1 ∧ b ≠ main_v2) :
    V3 m d (at_ b) = m (d, at_ b) := by
  obtain ⟨h0, h1, h2⟩ := h
  unfold V3 V2 V1
  rw [StableHlo.reshape_result_ne (h := h2), Function.update_of_ne (StableHlo.devRef_ne_of_ne h1), StableHlo.reshape_result_ne (h := h0)]
  rfl
theorem V3_arg0 (d : Dev nD) : V3 m d (at_ main_arg0) = m (d, at_ main_arg0) := V3_of_not_written m d _ (by decide)
theorem V3_arg1 (d : Dev nD) : V3 m d (at_ main_arg1) = m (d, at_ main_arg1) := V3_of_not_written m d _ (by decide)
theorem V3_mask (d : Dev nD) : V3 m d (at_ main_v2) = maskRows m d := by
  unfold V3 V2
  rw [StableHlo.reshape_result, Function.update_self]
  rfl

/-- The total over the blocks of lane zero and of lane one of the call's result, and their quotient. -/
def lossOf (g : S128x1x128.Idx → F .f32) : S_.Idx → F .f32 :=
  Host.divf
    (Host.reduceAdd (shapeCast S128 (extractStridedSlice S128x1x1 ![0, 0, 0] g slices_S128x1x128_S128x1x1_0_0_0) shapeCasts_S128x1x1_S128)
      (constant S_ .f32 0x00000000#32) reducesTo_S128_S_d0 h_S_)
    (Host.reduceAdd (shapeCast S128 (extractStridedSlice S128x1x1 ![0, 0, 1] g slices_S128x1x128_S128x1x1_0_0_1) shapeCasts_S128x1x1_S128)
      (constant S_ .f32 0x00000000#32) reducesTo_S128_S_d0 h_S_)

/-- The tail of the program computes the loss from the call's result. -/
theorem tail_loss (W : Valuation τ sig (Elt F)) :
    StableHlo.after (tailOps (F := F)) W (at_ main_v10) = lossOf (W (at_ main_v3)) := by
  unfold tailOps at_
  after_results_simp
  rfl

/-- The loss the program ends with. -/
theorem V5_loss (d : Dev nD) :
    V5 m d (at_ main_v10) = lossOf (parts (m (d, at_ main_arg0)) (m (d, at_ main_arg1)) (maskRows m d)) := by
  unfold V5
  rw [tail_loss]
  unfold V4
  rw [atExit_3, V3_arg0, V3_arg1, V3_mask]

end Cert.Proof

end
-- ==== Proof.KernelLoss.lean ====
/- The kernel program's loss over the extended reals: a sum over every row and position, divided by the mask's sum. -/
module

public import proofs.«01_k».proof.Proof.CallValue
public import Idealize.ShloMosaic.PureOps.Ideal.Laws
public import Idealize.ShloMosaic.Lib.IdealHost
public import Idealize.ShloMosaic.Lib.Pipeline.Value

@[expose] public section

noncomputable section

namespace Cert.Proof

open Cert.KernelIdeal Cert.KernelIdeal.Gen
open Idealize.ShloMosaic Idealize.SL.Sem
open scoped BigOperators

/-! ## The mathematics -/

/-- Entry number `w` of a row of a thousand, zero if there is none. -/
def pick (x : Fin 1000 → EReal) (w : BitVec 32) : EReal := if h : w.toNat < 1000 then x ⟨w.toNat, h⟩ else 0

/-- The logit of the target word at row `j 0`, position `j 1`. -/
def logit (x : S1024x50x1000.Idx → EReal) (t : S1024x50.Idx → BitVec 32) (j : S1024x50.Idx) : EReal :=
  pick (fun v => x (at3 (j 0) (j 1) v)) (t j)

/-- What one position adds to the loss: the negated logit of its word, times its mask. -/
def term (x : S1024x50x1000.Idx → EReal) (t : S1024x50.Idx → BitVec 32) (k : S1024x50.Idx → EReal) (j : S1024x50.Idx) : EReal :=
  -(logit x t j) * k j

/-- The loss: the terms' total over the mask's. -/
def meanLoss (x : S1024x50x1000.Idx → EReal) (t : S1024x50.Idx → BitVec 32) (k : S1024x50.Idx → EReal) : EReal :=
  Ideal.div (0 + ∑ j : S1024x50.Idx, term x t k j) (0 + ∑ j : S1024x50.Idx, k j)

/-- A sum over a row of the entries whose number is `w`, the others counted as zero, is entry `w`. -/
theorem sum_pick (x : Fin 1000 → EReal) (w : BitVec 32) :
    ∑ v : Fin 1000, (if BitVec.ofNat 32 v.val = w then x v else 0) = pick x w := by
  have he : ∀ v : Fin 1000, BitVec.ofNat 32 v.val = w ↔ v.val = w.toNat := fun v => by
    have hv := v.isLt
    constructor
    · rintro rfl; rw [BitVec.toNat_ofNat]; omega
    · intro h; rw [h]; exact BitVec.eq_of_toNat_eq (by simp)
  unfold pick
  split
  · rename_i h
    rw [Finset.sum_eq_single (⟨w.toNat, h⟩ : Fin 1000)]
    · rw [if_pos ((he _).2 rfl)]
    · intro v _ hv; rw [if_neg fun e => hv (Fin.ext ((he v).1 e))]
    · intro h'; exact absurd (Finset.mem_univ _) h'
  · rename_i h
    exact Finset.sum_eq_zero fun v _ => if_neg fun e => h ((he v).1 e ▸ v.isLt)

/-! ## One block -/

/-- Position `j` of a block's column of words. -/
def col (j : S8x50.Idx) : S8x50x1.Idx := ValueIdx.ix3 (j 0 : Fin 8) (j 1 : Fin 50) (0 : Fin 1)

/-- Entry `v` of the row of logits at position `j` of a block. -/
def entry (j : S8x50.Idx) (v : Fin 1000) : S8x50x1000.Idx := ValueIdx.ix3 (j 0 : Fin 8) (j 1 : Fin 50) v

/-- The indices of a column of 128. -/
def column : Fin 128 ≃ S128x1x1.Idx where
  toFun b := ValueIdx.ix3 b (0 : Fin 1) (0 : Fin 1)
  invFun i := i 0
  left_inv _ := rfl
  right_inv i := by
    funext a
    apply Fin.ext
    match a with
    | ⟨0, _⟩ => rfl
    | ⟨1, _⟩ => show 0 = (i 1).val; have : (i 1).val < 1 := (i 1).isLt; omega
    | ⟨2, _⟩ => show 0 = (i 2).val; have : (i 2).val < 1 := (i 2).isLt; omega

theorem lift_entry (h : S8x50x1000.Reduces [2] S8x50) (j : S8x50.Idx) (v : Fin 1000) : h.lift j v = entry j v := by
  funext a
  apply Fin.ext
  match a with
  | ⟨0, _⟩ => rfl
  | ⟨1, _⟩ => rfl
  | ⟨2, _⟩ => rfl

/-- The masked logits of a block's words, each row's one entry picked out by a sum over the row. -/
theorem block_picked (t : Vec Ideal S8x50 .i32) (x : Vec Ideal S8x50x1000 .f32) (h : S8x50x1000.Reduces [2] S8x50)
    (h1 : S8x50.ShapeCasts S8x50x1) (h2 : S8x50x1.Broadcasts S8x50x1000) (hi hf hn) (j : S8x50.Idx) :
    multiReduction (F := Ideal) (φ := .f32) .add [2] S8x50
        (select (cmpi .eq (iota .tc S8x50x1000 32 [2] hi) (broadcastTo S8x50x1000 (shapeCast S8x50x1 t h1) h2)) x
          (broadcast S8x50x1000 (Scalar.ofBits (F := Ideal) .f32 0x00000000#32)))
        0x00000000#32 h hf hn j
      = pick (fun v => x (entry j v)) (t j) := by
  rw [Ideal.multiReduction_add_single, ← sum_pick]
  refine Finset.sum_congr rfl fun v _ => ?_
  rw [← lift_entry h j v]
  have hb : broadcastTo S8x50x1000 (shapeCast S8x50x1 t h1) h2 (h.lift j v) = t j := by
    rw [broadcastTo_apply _ h2 (h.lift j v) (col j) (fun a => by
      match a with
      | ⟨0, _⟩ => rfl
      | ⟨1, _⟩ => rfl
      | ⟨2, _⟩ => rfl)]
    refine shapeCast_apply t h1 (col j) j ?_
    rw [Shape.rowMajor_val_two, Shape.rowMajor_val_three]
    show (j 0).val * 50 + (j 1).val = ((j 0).val * 50 + (j 1).val) * 1 + 0
    omega
  have hio : iota .tc S8x50x1000 32 [2] hi (h.lift j v) = BitVec.ofNat 32 v.val := iota_single_apply _ _ _ _ _ _
  show Scalar.select (IntOp.cmpi .eq (iota .tc S8x50x1000 32 [2] hi (h.lift j v)) (broadcastTo S8x50x1000 (shapeCast S8x50x1 t h1) h2 (h.lift j v)))
    (x (h.lift j v)) (Ideal.ofBits .f32 0x00000000#32) = _
  rw [hb, hio, Ideal.ofBits_zero_f32]
  unfold Scalar.select
  exact if_congr IntOp.cmpi_eq rfl rfl

/-- A sum over the indices of a recast array is the sum over the array's own. -/
theorem sum_cast {s t : Shape} (x : s.Idx → EReal) (h : s.ShapeCasts t) : ∑ i : t.Idx, shapeCast t x h i = ∑ j : s.Idx, x j :=
  Equiv.sum_comp (Shape.reshapeEquiv h) x

/-- What one position of a block adds to the loss. -/
def blockTerm (t : Vec Ideal S8x50 .i32) (k : Vec Ideal S8x50 .f32) (x : Vec Ideal S8x50x1000 .f32) (j : S8x50.Idx) : EReal :=
  -(pick (fun v => x (entry j v)) (t j)) * k j

/-- Lane zero of a block's result is the block's total of the terms. -/
theorem pay_zero (t : Vec Ideal S8x50 .i32) (k : Vec Ideal S8x50 .f32) (x : Vec Ideal S8x50x1000 .f32) :
    k1_pay1 (F := Ideal) t k x (outLane 0) = ∑ j : S8x50.Idx, blockTerm t k x j := by
  unfold k1_pay1
  refine (Ideal.multiReduction_add_total _ _ reduces_S1x8x50_S1 (by decide) (.inl rfl) rfl _).trans ?_
  refine (sum_cast _ shapeCasts_S8x50_S1x8x50).trans (Finset.sum_congr rfl fun j _ => ?_)
  refine congrArg₂ (fun a b : EReal => a * b) ?_ (congrFun (shapeCast_self k shapeCasts_S8x50_S8x50) j)
  refine (congrArg (fun a : EReal => Ideal.ofBits .f32 0x00000000#32 - a) (block_picked t x reduces_S8x50x1000_S8x50 shapeCasts_S8x50_S8x50x1
    broadcasts_S8x50x1_S8x50x1000 iota_S8x50x1000_d2_w32 (.inl rfl) rfl j)).trans ?_
  rw [Ideal.ofBits_zero_f32, zero_sub]

/-- Lane one of a block's result is the block's total of the mask. -/
theorem pay_one (t : Vec Ideal S8x50 .i32) (k : Vec Ideal S8x50 .f32) (x : Vec Ideal S8x50x1000 .f32) :
    k1_pay1 (F := Ideal) t k x (outLane 1) = ∑ j : S8x50.Idx, k j := by
  unfold k1_pay1
  refine (Ideal.multiReduction_add_total _ _ reduces_S1x8x50_S1 (by decide) (.inl rfl) rfl _).trans ?_
  refine (sum_cast _ shapeCasts_S8x50_S1x8x50).trans (Finset.sum_congr rfl fun j _ => ?_)
  exact congrFun (shapeCast_self k shapeCasts_S8x50_S8x50) j

/-! ## The blocks together -/

/-- The indices of the whole are the pairs of a block and an index of a block. -/
def blocks : Fin 128 × S8x50.Idx ≃ S1024x50.Idx where
  toFun p := at2 (rowOf p.1 (p.2 0)) (p.2 1)
  invFun j := (⟨(j 0).val / 8, by have : (j 0).val < 1024 := (j 0).isLt; omega⟩,
    ValueIdx.ix2 (n0 := 8) (n1 := 50) ⟨(j 0).val % 8, by omega⟩ (j 1))
  left_inv p := by
    obtain ⟨b, j⟩ := p
    have hj : (j 0).val < 8 := (j 0).isLt
    refine Prod.ext (Fin.ext ?_) (funext fun a => Fin.ext ?_)
    · show (b.val * 8 + (j 0).val) / 8 = b.val; omega
    · match a with
      | ⟨0, _⟩ => show (b.val * 8 + (j 0).val) % 8 = (j 0).val; omega
      | ⟨1, _⟩ => rfl
  right_inv j := by
    funext a
    apply Fin.ext
    match a with
    | ⟨0, _⟩ => show (j 0).val / 8 * 8 + (j 0).val % 8 = (j 0).val; omega
    | ⟨1, _⟩ => rfl

theorem sum_blocks (f : S1024x50.Idx → EReal) :
    ∑ b : Fin 128, ∑ j : S8x50.Idx, f (at2 (rowOf b (j 0)) (j 1)) = ∑ j : S1024x50.Idx, f j := by
  rw [← Equiv.sum_comp blocks f, Fintype.sum_prod_type]
  rfl

/-- The total over the blocks of one lane of the call's result. -/
theorem sum_lane (g : S128x1x128.Idx → EReal) (l : Fin 128) (off : Fin 3 → ℕ) (hs : S128x1x128.Slices off S128x1x1) (h0 : off 0 = 0) (h1 : off 1 = 0)
    (h2 : off 2 = l.val) :
    Host.reduceAdd (F := Ideal) (φ := .f32) (shapeCast S128 (extractStridedSlice S128x1x1 off g hs) shapeCasts_S128x1x1_S128)
        (constant S_ .f32 0x00000000#32) reducesTo_S128_S_d0 h_S_
      = fun _ => 0 + ∑ b : Fin 128, g (ValueIdx.ix3 b (0 : Fin 1) l) := by
  funext o
  rw [ValueIdx.hostReduceAdd_apply, Ideal.hostReduceAdd_total _ (fun b => b.elim0)]
  refine congrArg₂ (fun a b : EReal => a + b) Ideal.ofBits_zero_f32 ?_
  rw [sum_cast, ← Equiv.sum_comp column]
  refine Finset.sum_congr rfl fun b _ => ?_
  refine extractStridedSlice_apply off g hs _ _ fun a => ?_
  match a with
  | ⟨0, _⟩ => show b.val = off 0 + b.val; omega
  | ⟨1, _⟩ => show 0 = off 1 + 0; omega
  | ⟨2, _⟩ => show l.val = off 2 + 0; omega

/-- The kernel program's loss is the mean over the mask. -/
theorem lossOf_eq (x : S1024x50x1000.Idx → EReal) (t : S1024x50.Idx → BitVec 32) (k : S1024x50.Idx → EReal) :
    lossOf (F := Ideal) (parts (F := Ideal) x t k) = fun _ => meanLoss x t k := by
  unfold lossOf
  rw [sum_lane _ 0 ![0, 0, 0] _ rfl rfl rfl, sum_lane _ 1 ![0, 0, 1] _ rfl rfl rfl]
  funext o
  show Ideal.div (0 + ∑ b : Fin 128, k1_pay1 (F := Ideal) (rows2 t b) (rows2 k b) (rows3 x b) (outLane 0))
    (0 + ∑ b : Fin 128, k1_pay1 (F := Ideal) (rows2 t b) (rows2 k b) (rows3 x b) (outLane 1)) = _
  simp only [pay_zero, pay_one]
  unfold meanLoss
  rw [← sum_blocks, ← sum_blocks]
  rfl

end Cert.Proof

end
-- ==== Proof.RefLoss.lean ====
/- The reference program's loss over the extended reals: the same sum over every row and position, divided by the same
   mask's sum, where every word is a row's entry number. -/
module

public import proofs.«01_k».proof.Proof.KernelLoss
public import proofs.«01_k».proof.Proof.Gen.ReferenceIdeal.Run
public import Idealize.ShloMosaic.Lib.ReduceAll
public import Idealize.ShloMosaic.Lib.IndicatorCount

@[expose] public section

noncomputable section

namespace Cert.Proof

open Idealize.ShloMosaic Idealize.SL.Sem
open scoped BigOperators

/-! ## The mask -/

/-- How many words of row `r` are positive. -/
def positives (t : Cert.KernelIdeal.S1024x50.Idx → BitVec 32) (r : Fin 1024) : ℕ :=
  (Finset.univ.filter fun p : Fin 50 => IntOp.cmpi .sgt (t (at2 r p)) 0#32 = 1#1).card

theorem positives_le (t : Cert.KernelIdeal.S1024x50.Idx → BitVec 32) (r : Fin 1024) : positives t r ≤ 50 :=
  (Finset.card_le_univ _).trans (by simp)

/-- The mask: one at a position no later in its row than the row's count of positive words, else zero. -/
def rowMask (t : Cert.KernelIdeal.S1024x50.Idx → BitVec 32) (j : Cert.KernelIdeal.S1024x50.Idx) : EReal :=
  if (j 1).val ≤ positives t (j 0) then 1 else 0

section Kernel

open Cert.KernelIdeal Cert.KernelIdeal.Gen

/-- The row's count of positive words, read off the flat words. -/
theorem rowCount_flat (t : S1024x50.Idx → BitVec 32) (r : Fin 1024) :
    rowCount (n := 51200) (shapeCast S51200 t shapeCasts_S1024x50_S51200) r.val = positives t r := by
  unfold rowCount positives
  rw [Finset.sum_range, Finset.card_filter]
  refine Finset.sum_congr rfl fun p _ => ?_
  unfold hit
  have hk : 50 * r.val + p.val < 51200 := by omega
  rw [wordAt_eq _ (ix (n := 51200) (50 * r.val + p.val) hk) (50 * r.val + p.val) rfl]
  rw [shapeCast_apply t shapeCasts_S1024x50_S51200 _ (at2 r p) (by
    rw [Shape.rowMajor_val_two, Shape.rowMajor_val_one]
    show r.val * 50 + p.val = 50 * r.val + p.val
    omega)]
  refine if_congr ?_ rfl rfl
  rw [IntOp.cmpi_sgt, BitVec.slt_iff_toInt_lt]

variable (m : (ℓ : Loc nD τ sig) → Buf (Elt Ideal) ℓ)

/-- The mask the kernel program computes. -/
theorem maskRows_eq (d : Dev nD) : maskRows (F := Ideal) m d = rowMask (m (d, at_ main_arg1)) := by
  funext j
  have h0 : (j 0).val < 1024 := (j 0).isLt
  have h1 : (j 1).val < 50 := (j 1).isLt
  have hk : 50 * (j 0).val + (j 1).val < 51200 := by omega
  unfold maskRows
  rw [shapeCast_apply _ shapeCasts_S51200_S1024x50 j (ix (n := 51200) (50 * (j 0).val + (j 1).val) hk) (by
    rw [Shape.rowMajor_val_two, Shape.rowMajor_val_one]
    show 50 * (j 0).val + (j 1).val = (j 0).val * 50 + (j 1).val
    omega)]
  unfold mask maskOf rowMask
  show (if (50 * (j 0).val + (j 1).val) % 50 ≤ rowCount (tgt m d) ((50 * (j 0).val + (j 1).val) / 50) then Ideal.ofBits .f32 0x3F800000#32
    else Ideal.ofBits .f32 0x00000000#32) = _
  rw [show (50 * (j 0).val + (j 1).val) % 50 = (j 1).val by omega, show (50 * (j 0).val + (j 1).val) / 50 = (j 0).val by omega,
    Ideal.ofBits_one_f32, Ideal.ofBits_zero_f32]
  exact if_congr (iff_of_eq (congrArg (fun c : ℕ => (j 1).val ≤ c) (rowCount_flat (m (d, at_ main_arg1)) (j 0)))) rfl rfl

end Kernel

section Reference

open Cert.ReferenceIdeal Cert.ReferenceIdeal.Gen

variable (x : S1024x50x1000.Idx → EReal) (t : S1024x50.Idx → BitVec 32)

/-- The mask as the reference computes it. -/
def refMask : S1024x50.Idx → EReal :=
  uitofp (F := Ideal) .f32 (cmpi .slt (broadcastInDim S1024x50 ![0, 1] bcast_S1x50_S1024x50_0_1 (broadcastInDim S1x50 ![1] bcast_S50_S1x50_1 (iotaInDim S50 32 0)))
    (broadcastInDim S1024x50 ![0, 1] bcast_S1024x1_S1024x50_0_1 (broadcastInDim S1024x1 ![0] bcast_S1024_S1024x1_0
      (addi (Host.reduce IntOp.addi (extui 32 (cmpi .sgt t (broadcastInDim S1024x50 ![] bcast_S_S1024x50 (constantI S_ 32 0#32))) natLt_1_32)
        (constantI S_ 32 0#32) reducesTo_S1024x50_S1024_d1 h_S_) (broadcastInDim S1024 ![] bcast_S_S1024 (constantI S_ 32 1#32))))))

/-- The row's count of positive words, as a reduction by addition. -/
theorem reduce_count (r : Fin 1024) :
    Host.reduce IntOp.addi (extui 32 (cmpi .sgt t (broadcastInDim S1024x50 ![] bcast_S_S1024x50 (constantI S_ 32 0#32))) natLt_1_32)
        (constantI S_ 32 0#32) reducesTo_S1024x50_S1024_d1 h_S_ (ValueIdx.ix1 r) = BitVec.ofNat 32 (positives t r) := by
  have hr : S1024x50.Reduces [1] S1024 := by decide
  rw [Host.reduce_eq_fold_single IntOp.addi _ _ reducesTo_S1024x50_S1024_d1 hr h_S_]
  refine (IndicatorCount.fold_addi_setWidth_eq_card (fun p : Fin 50 => IntOp.cmpi .sgt (t (hr.lift (ValueIdx.ix1 r) p)) 0#32) Finset.univ).trans ?_
  have hl : ∀ p : Fin 50, hr.lift (ValueIdx.ix1 r) p = at2 r p := fun p => funext fun a => Fin.ext (by
    match a with
    | ⟨0, _⟩ => rfl
    | ⟨1, _⟩ => rfl)
  simp only [hl]
  rfl

/-- The reference's mask at a position, over any row bounds `c`: whether the position's number is below its row's bound. -/
theorem mask_at (c : S1024.Idx → BitVec 32) (j : S1024x50.Idx) :
    uitofp (F := Ideal) .f32 (cmpi .slt (broadcastInDim S1024x50 ![0, 1] bcast_S1x50_S1024x50_0_1 (broadcastInDim S1x50 ![1] bcast_S50_S1x50_1 (iotaInDim S50 32 0)))
        (broadcastInDim S1024x50 ![0, 1] bcast_S1024x1_S1024x50_0_1 (broadcastInDim S1024x1 ![0] bcast_S1024_S1024x1_0 c))) j
      = (((IntOp.cmpi .slt (BitVec.ofNat 32 (j 1).val) (c (ValueIdx.ix1 (j 0 : Fin 1024)))).toNat : ℝ) : EReal) := by
  have ha : broadcastInDim S1024x50 ![0, 1] bcast_S1x50_S1024x50_0_1 (broadcastInDim S1x50 ![1] bcast_S50_S1x50_1 (iotaInDim S50 32 0)) j
      = BitVec.ofNat 32 (j 1).val := by
    rw [broadcastInDim_apply _ bcast_S1x50_S1024x50_0_1 _ j (ValueIdx.ix2 (0 : Fin 1) (j 1 : Fin 50)) (fun a => by
      match a with
      | ⟨0, _⟩ => rfl
      | ⟨1, _⟩ => rfl)]
    exact broadcastInDim_apply _ bcast_S50_S1x50_1 _ _ (ValueIdx.ix1 (j 1 : Fin 50)) (fun a => by
      match a with
      | ⟨0, _⟩ => rfl)
  have hb : broadcastInDim S1024x50 ![0, 1] bcast_S1024x1_S1024x50_0_1 (broadcastInDim S1024x1 ![0] bcast_S1024_S1024x1_0 c) j
      = c (ValueIdx.ix1 (j 0 : Fin 1024)) := by
    rw [broadcastInDim_apply _ bcast_S1024x1_S1024x50_0_1 _ j (ValueIdx.ix2 (j 0 : Fin 1024) (0 : Fin 1)) (fun a => by
      match a with
      | ⟨0, _⟩ => rfl
      | ⟨1, _⟩ => rfl)]
    exact broadcastInDim_apply _ bcast_S1024_S1024x1_0 c _ _ (fun a => by
      match a with
      | ⟨0, _⟩ => rfl)
  exact congrArg₂ (fun a b : BitVec 32 => (((IntOp.cmpi .slt a b).toNat : ℝ) : EReal)) ha hb

/-- The reference's mask is the mask. -/
theorem refMask_eq : refMask t = rowMask t := by
  funext j
  have h1 : (j 1).val < 50 := (j 1).isLt
  have hc := positives_le t (j 0)
  unfold refMask rowMask
  refine (mask_at _ j).trans ?_
  have hs : addi (Host.reduce IntOp.addi (extui 32 (cmpi .sgt t (broadcastInDim S1024x50 ![] bcast_S_S1024x50 (constantI S_ 32 0#32))) natLt_1_32)
        (constantI S_ 32 0#32) reducesTo_S1024x50_S1024_d1 h_S_) (broadcastInDim S1024 ![] bcast_S_S1024 (constantI S_ 32 1#32)) (ValueIdx.ix1 (j 0 : Fin 1024))
      = BitVec.ofNat 32 (positives t (j 0) + 1) := by
    rw [BitVec.ofNat_add]
    exact congrArg (fun w : BitVec 32 => w + 1#32) (reduce_count t (j 0))
  rw [hs]
  have hn : ∀ n : ℕ, n < 100 → (BitVec.ofNat 32 n).toInt = n := fun n h => by
    rw [BitVec.toInt_eq_toNat_of_lt (by rw [BitVec.toNat_ofNat]; omega), BitVec.toNat_ofNat]; omega
  have hcmp : IntOp.cmpi .slt (BitVec.ofNat 32 (j 1).val) (BitVec.ofNat 32 (positives t (j 0) + 1)) = 1#1 ↔ (j 1).val ≤ positives t (j 0) := by
    rw [IntOp.cmpi_slt, hn _ (by omega), hn _ (by omega)]; omega
  by_cases h : (j 1).val ≤ positives t (j 0)
  · rw [hcmp.2 h, if_pos h]; simp
  · rw [ValueIdx.eq_zero_of_ne_one fun e => h (hcmp.1 e), if_neg h]; simp

/-! ## The gathered logits -/

/-- Every word is an entry's number. -/
def InRange (t : S1024x50.Idx → BitVec 32) : Prop := ∀ j, (t j).toNat < 1000

/-- The words in a column; -/
def column1 : S51200x1.Idx → BitVec 32 := shapeCast _ t shapeCasts_S1024x50_S51200x1
/-- and with a negative one counted from the end, as the reference takes them: the entries' numbers. -/
def numbers : S51200x1x1.Idx → BitVec 32 :=
  shapeCast _ (select (cmpi .slt (column1 t) (broadcastInDim S51200x1 ![] bcast_S_S51200x1 (constantI S_ 32 0#32)))
    (addi (column1 t) (broadcastInDim S51200x1 ![] bcast_S_S51200x1 (constantI S_ 32 1000#32))) (column1 t)) shapeCasts_S51200x1_S51200x1x1
/-- Whether a position's number is an entry's. -/
def okay : S51200x1.Idx → BitVec 1 :=
  Host.reduce IntOp.andi (andi (cmpi .sge (numbers t) (broadcastInDim S51200x1x1 ![] bcast_S_S51200x1x1 (constantI S_ 32 0#32)))
    (cmpi .sle (numbers t) (broadcastInDim S51200x1x1 ![0, 1, 2] bcast_S1x1x1_S51200x1x1_0_1_2 (broadcastInDim S1x1x1 ![2] bcast_S1_S1x1x1_2 (constantI S1 32 999#32)))))
    (constantI S_ 1 1#1) reducesTo_S51200x1x1_S51200x1_d2 h_S_
/-- The logits the reference gathers. -/
def gathered : S51200x1.Idx → EReal :=
  select (okay t) (Host.gather gather_S51200x1000_S51200x1x1_S51200x1_n_1_0_0_1_2_11 (shapeCast _ x shapeCasts_S1024x50x1000_S51200x1000) (numbers t))
    (broadcastInDim S51200x1 ![] bcast_S_S51200x1 (constant (F := Ideal) S_ .f32 0x7FC00000#32))

theorem toInt_small {w : BitVec 32} (h : w.toNat < 1000) : w.toInt = (w.toNat : ℤ) :=
  BitVec.toInt_eq_toNat_of_lt (by omega)

/-- A word in range is its own number. -/
theorem numbers_self (ht : InRange t) : numbers t = shapeCast _ (column1 t) shapeCasts_S51200x1_S51200x1x1 := by
  unfold numbers
  refine congrArg (fun y => shapeCast _ y shapeCasts_S51200x1_S51200x1x1) (funext fun i => ?_)
  have hi : (column1 t i).toNat < 1000 := ht _
  show Scalar.select (IntOp.cmpi .slt (column1 t i) 0#32) _ (column1 t i) = _
  unfold Scalar.select
  rw [if_neg]
  intro e
  have := IntOp.cmpi_slt.1 e
  rw [toInt_small hi] at this
  simp at this
  omega

theorem okay_eq (ht : InRange t) : okay t = fun _ => 1#1 := by
  funext i
  unfold okay
  refine Host.reduce_andi_one _ _ _ _ _ rfl fun k => ?_
  have hk : (numbers t k).toNat < 1000 := by rw [numbers_self t ht]; exact ht _
  refine IntOp.andi_eq_one.2 ⟨IntOp.cmpi_sge.2 ?_, IntOp.cmpi_sle.2 ?_⟩
  · rw [toInt_small hk]; show (0 : ℤ) ≤ _; omega
  · rw [toInt_small hk]; show _ ≤ (999 : ℤ); omega

/-- Where row `j 0`, position `j 1` lies in the column of all positions. -/
def flat (j : S1024x50.Idx) : S51200x1.Idx :=
  ValueIdx.ix2 (⟨(j 0).val * 50 + (j 1).val, by have : (j 0).val < 1024 := (j 0).isLt; have : (j 1).val < 50 := (j 1).isLt; omega⟩ : Fin 51200) (0 : Fin 1)

theorem cast_flat {α : Type} (y : S1024x50.Idx → α) (j : S1024x50.Idx) : shapeCast _ y shapeCasts_S1024x50_S51200x1 (flat j) = y j := by
  refine shapeCast_apply y shapeCasts_S1024x50_S51200x1 (flat j) j ?_
  rw [Shape.rowMajor_val_two, Shape.rowMajor_val_two]
  show (j 0).val * 50 + (j 1).val = ((j 0).val * 50 + (j 1).val) * 1 + 0
  omega

/-- A sum over the column is a sum over rows and positions. -/
theorem sum_flat (f : S51200x1.Idx → EReal) : ∑ i : S51200x1.Idx, f i = ∑ j : S1024x50.Idx, f (flat j) := by
  rw [← Equiv.sum_comp (Shape.reshapeEquiv (s := S51200x1) (s' := S1024x50) shapeCasts_S1024x50_S51200x1.symm) f]
  refine Finset.sum_congr rfl fun j _ => congrArg f (Shape.reshapeEquiv_eq_of_rowMajor _ ?_)
  rw [Shape.rowMajor_val_two, Shape.rowMajor_val_two]
  show ((j 0).val * 50 + (j 1).val) * 1 + 0 = (j 0).val * 50 + (j 1).val
  omega

section Entry

variable {N C : ℕ} (wf : GatherDims.WF ⟨2, ![N, C]⟩ ⟨3, ![N, 1, 1]⟩ ⟨2, ![N, 1]⟩ [] [1] [0] [1] [0] 2 ![1, 1])

/-- The gather of one entry from each of `N` rows of `C` entries: the rows go together, and the word names the entry. -/
abbrev entryOfRow : GatherDims ⟨2, ![N, C]⟩ ⟨3, ![N, 1, 1]⟩ ⟨2, ![N, 1]⟩ := ⟨[], [1], [0], [0], [1], 2, ![1, 1], wf⟩

/-- The word that a position reads. -/
abbrev wordPlace (i : (⟨2, ![N, 1]⟩ : Shape).Idx) : (⟨3, ![N, 1, 1]⟩ : Shape).Idx := ValueIdx.ix3 (i 0 : Fin N) (i 1 : Fin 1) (0 : Fin 1)

/-- That is the word at which the gather looks, there being one component to its start. -/
theorem entryOfRow_word (i : (⟨2, ![N, 1]⟩ : Shape).Idx) (c : Fin 1) : (entryOfRow wf).siIdx i c = wordPlace i :=
  funext (Fin.forall_fin_succ.2 ⟨rfl, Fin.forall_fin_two.2 ⟨rfl, Fin.ext (show c.val = 0 by omega)⟩⟩)

/-- It reads from the position's own row … -/
theorem entryOfRow_row (n : IVec ⟨3, ![N, 1, 1]⟩ 32) (i : (⟨2, ![N, 1]⟩ : Shape).Idx) :
    ((entryOfRow wf).operandIdx i n 0).val = (i 0).val :=
  show 0 + (i 0).val + 0 = (i 0).val by omega

/-- … the entry whose number the word is, clamped into the row. -/
theorem entryOfRow_entry (n : IVec ⟨3, ![N, 1, 1]⟩ 32) (i : (⟨2, ![N, 1]⟩ : Shape).Idx) :
    ((entryOfRow wf).operandIdx i n 1).val = min (n (wordPlace i)).toInt.toNat (C - 1) :=
  show min (n ((entryOfRow wf).siIdx i (0 : Fin 1))).toInt.toNat (C - 1) + 0 + 0 = _ by rw [entryOfRow_word]; rfl

/-- The gathered entry at position `i`. -/
theorem gather_entry {α : Type} (hC : 0 < C) (y : (⟨2, ![N, C]⟩ : Shape).Idx → α) (n : IVec ⟨3, ![N, 1, 1]⟩ 32) (i : (⟨2, ![N, 1]⟩ : Shape).Idx) :
    Host.gather (entryOfRow wf) y n i
      = y (ValueIdx.ix2 (i 0 : Fin N) (⟨min (n (wordPlace i)).toInt.toNat (C - 1), by omega⟩ : Fin C)) :=
  congrArg y (funext (Fin.forall_fin_two.2 ⟨Fin.ext (entryOfRow_row wf n i), Fin.ext (entryOfRow_entry wf n i)⟩))

end Entry

/-- The same at the reference's shapes. -/
theorem gather_row (y : S51200x1000.Idx → EReal) (n : S51200x1x1.Idx → BitVec 32) (i : S51200x1.Idx) :
    Host.gather gather_S51200x1000_S51200x1x1_S51200x1_n_1_0_0_1_2_11 y n i
      = y (ValueIdx.ix2 (i 0 : Fin 51200) (⟨min (n (ValueIdx.ix3 (i 0 : Fin 51200) (i 1 : Fin 1) (0 : Fin 1))).toInt.toNat 999, by omega⟩ : Fin 1000)) :=
  gather_entry (N := 51200) (C := 1000) gather_S51200x1000_S51200x1x1_S51200x1_n_1_0_0_1_2_11_wf (by omega) y n i

/-- The gathered logits are the words'. -/
theorem gathered_flat (ht : InRange t) (j : S1024x50.Idx) : gathered x t (flat j) = logit x t j := by
  unfold gathered
  rw [okay_eq t ht]
  show Host.gather gather_S51200x1000_S51200x1x1_S51200x1_n_1_0_0_1_2_11 (shapeCast _ x shapeCasts_S1024x50x1000_S51200x1000) (numbers t) (flat j) = _
  have hj := ht j
  have h0 : (j 0).val < 1024 := (j 0).isLt
  have h1 : (j 1).val < 50 := (j 1).isLt
  have hn : numbers t (ValueIdx.ix3 (flat j 0 : Fin 51200) (flat j 1 : Fin 1) (0 : Fin 1)) = t j := by
    rw [numbers_self t ht]
    refine (shapeCast_apply (column1 t) shapeCasts_S51200x1_S51200x1x1 _ (flat j) ?_).trans (cast_flat t j)
    rw [Shape.rowMajor_val_two, Shape.rowMajor_val_three]
    show ((j 0).val * 50 + (j 1).val) * 1 + 0 = (((j 0).val * 50 + (j 1).val) * 1 + 0) * 1 + 0
    omega
  rw [gather_row]
  unfold logit pick
  rw [dif_pos hj]
  refine shapeCast_apply x shapeCasts_S1024x50x1000_S51200x1000 _ _ ?_
  rw [Shape.rowMajor_val_three, Shape.rowMajor_val_two]
  show ((j 0).val * 50 + (j 1).val) * 1000 + (t j).toNat
    = ((j 0).val * 50 + (j 1).val) * 1000 + min (numbers t (ValueIdx.ix3 (flat j 0 : Fin 51200) (flat j 1 : Fin 1) (0 : Fin 1))).toInt.toNat 999
  rw [hn, toInt_small hj]
  have : (((t j).toNat : ℤ)).toNat = (t j).toNat := Int.toNat_natCast _
  omega

/-! ## The loss -/

/-- The reference's loss of its two arguments, as it computes it. -/
def refLoss : S_.Idx → EReal :=
  Host.divf (F := Ideal) (φ := .f32)
    (Host.reduceAdd (F := Ideal) (φ := .f32) (mulf (F := Ideal) (φ := .f32) (Host.negf (F := Ideal) (φ := .f32) (gathered x t)) (shapeCast _ (refMask t) shapeCasts_S1024x50_S51200x1))
      (constant S_ .f32 0x00000000#32) reducesTo_S51200x1_S_d0_1 h_S_)
    (Host.reduceAdd (F := Ideal) (φ := .f32) (shapeCast _ (refMask t) shapeCasts_S1024x50_S51200x1) (constant S_ .f32 0x00000000#32) reducesTo_S51200x1_S_d0_1 h_S_)

/-- A total over the column. -/
theorem total_flat (f : S51200x1.Idx → EReal) :
    Host.reduceAdd (F := Ideal) (φ := .f32) f (constant S_ .f32 0x00000000#32) reducesTo_S51200x1_S_d0_1 h_S_ = fun _ => 0 + ∑ j : S1024x50.Idx, f (flat j) := by
  funext o
  rw [ValueIdx.hostReduceAdd_apply, Ideal.hostReduceAdd_total _ (fun b => b.elim0)]
  exact congrArg₂ (fun a b : EReal => a + b) Ideal.ofBits_zero_f32 (sum_flat f)

/-- The reference's loss is the mean over the mask. -/
theorem refLoss_eq (ht : InRange t) : refLoss x t = fun _ => meanLoss x t (rowMask t) := by
  unfold refLoss
  rw [total_flat, total_flat, refMask_eq]
  funext o
  refine congrArg₂ Ideal.div (congrArg (fun a : EReal => 0 + a) (Finset.sum_congr rfl fun j _ => ?_)) (congrArg (fun a : EReal => 0 + a) (Finset.sum_congr rfl fun j _ => ?_))
  · exact congrArg₂ (fun a b : EReal => -a * b) (gathered_flat x t ht j) (cast_flat (rowMask t) j)
  · exact cast_flat (rowMask t) j

variable (m : (ℓ : Loc nD τ sig) → Buf (Elt Ideal) ℓ) (ρ : Dev nD → PrngReg)

/-- The reference program ends with that loss, its arguments as they were. -/
theorem run_reference :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v21) = refLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m ρ

end Reference

end Cert.Proof

end
-- ==== Proof.Algebraic.lean ====
/- The equality of the two programs' losses over the extended reals, where every word is a row's entry number. -/
module

public import proofs.«01_k».proof.Defs
public import proofs.«01_k».proof.Proof.Frames
public import proofs.«01_k».proof.Proof.RefLoss
public import proofs.«01_k».proof.Proof.Gen.Pre_in_vocabulary

@[expose] public section

noncomputable section

namespace Cert.Proof

open Idealize.ShloMosaic Idealize.SL.Sem

/-- The precondition says that every word is at least zero and below a thousand. -/
theorem inRange_of_pre (x : Cert.ReferenceIdeal.S1024x50x1000.Idx → EReal) (t : Cert.ReferenceIdeal.S1024x50.Idx → BitVec 32)
    (h : Cert.Pre_in_vocabulary.fn (F := Ideal) x t = fun _ => 1#1) : InRange t := by
  intro j
  obtain ⟨h0, h1⟩ := IntOp.andi_eq_one.1 (congrFun h ValueIdx.ix0)
  haveI : Subsingleton Cert.Pre_in_vocabulary.S_.Idx := ⟨fun a b => (ValueIdx.eq_ix0 a).trans (ValueIdx.eq_ix0 b).symm⟩
  have g0 : (0#32 : BitVec 32).toInt ≤ (t j).toInt := IntOp.cmpi_sge.1 (Host.reduce_andi_all _ _ _ _ _ h0 j)
  have g1 : (t j).toInt < (1000#32 : BitVec 32).toInt := IntOp.cmpi_slt.1 (Host.reduce_andi_all _ _ _ _ _ h1 j)
  rw [show (0#32 : BitVec 32).toInt = 0 from rfl] at g0
  rw [show (1000#32 : BitVec 32).toInt = 1000 from rfl] at g1
  have hlt := (t j).isLt
  rw [BitVec.toInt_eq_toNat_cond] at g0 g1
  split at g0 <;> omega

/-- The kernel program's loss is the mean over the mask of the negated logits of the words. -/
theorem kernel_loss (m : (ℓ : Loc Cert.KernelIdeal.nD Cert.KernelIdeal.τ Cert.KernelIdeal.sig) → Buf (Elt Ideal) ℓ) (d : Dev Cert.KernelIdeal.nD) :
    V5 m d (at_ Cert.KernelIdeal.main_v10)
      = fun _ => meanLoss (m (d, at_ Cert.KernelIdeal.main_arg0)) (m (d, at_ Cert.KernelIdeal.main_arg1)) (rowMask (m (d, at_ Cert.KernelIdeal.main_arg1))) := by
  rw [V5_loss, maskRows_eq]
  exact lossOf_eq _ _ _

/-- From equal arguments, every word an entry's number, the two programs end with one loss: the mean over the mask of the
    negated logits of the words. -/
theorem algebraic : Cert.algebraic_KernelIdeal_ReferenceIdeal_pre_in_vocabulary := by
  intro m g m' g' hpre hm
  refine ⟨fun c => V5 m c (at_ Cert.KernelIdeal.main_v10), ?_, ?_⟩
  · exact (θ_run Cert.KernelIdeal.defs _ _).mono
      (fun _ h c => ⟨h.1 c (at_ Cert.KernelIdeal.main_v10) (mem_uc rfl),
        (h.1 c (at_ Cert.KernelIdeal.main_arg0) (mem_uc rfl)).trans (V5_arg0 m c),
        (h.1 c (at_ Cert.KernelIdeal.main_arg1) (mem_uc rfl)).trans (V5_arg1 m c)⟩)
      (run_main m g)
  · refine (θ_run Cert.ReferenceIdeal.defs _ _).mono (fun _ h c => ⟨(h c).1.trans ?_, (h c).2⟩) (run_reference m' g')
    rw [(hm c).1, (hm c).2]
    exact (refLoss_eq _ _ (inRange_of_pre _ _ (hpre c))).trans (kernel_loss m c).symm

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocabulary

@[expose] public section

noncomputable section

namespace Cert.Proof

open Idealize.ShloMosaic Idealize.SL.Sem

/-- Every claim: the frames hold of every launch memory, so under the precondition too. -/
theorem claim : Cert.Claim :=
  ⟨Cert.Kernel.Gen.facts, Cert.KernelIdeal.Gen.facts, Cert.ReferenceIdeal.Gen.facts, Cert.Pre_in_vocabulary.Gen.facts,
    frame_kernel, frame_kernelIdeal, fun m g _ => run_frame (F := Ideal) m g, frame_referenceIdeal,
    fun m g _ => frame_referenceIdeal m g trivial, trivial, algebraic⟩

end Cert.Proof

end
